-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_mask [hPre_full_mask : Cert.Pre_full_mask.Facts] (m : (ℓ : Loc Cert.KernelIdeal.nD Cert.KernelIdeal.τ Cert.KernelIdeal.sig) → Buf (Elt Ideal) ℓ) : Prop :=
  ∀ c : Dev Cert.KernelIdeal.nD,
    (Cert.Pre_full_mask.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_mask [hPre_full_mask : Cert.Pre_full_mask.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_mask.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_full_mask [hKernelIdeal : Cert.KernelIdeal.Facts] [hPre_full_mask : Cert.Pre_full_mask.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_mask m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_full_mask [hReferenceIdeal : Cert.ReferenceIdeal.Facts] [hPre_full_mask : Cert.Pre_full_mask.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_mask m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "neg" .f32 0xFF61B1E6#32 ⊥

def algebraic_KernelIdeal_ReferenceIdeal_pre_full_mask [hKernelIdeal : Cert.KernelIdeal.Facts] [hReferenceIdeal : Cert.ReferenceIdeal.Facts] [hPre_full_mask : Cert.Pre_full_mask.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_mask m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_full_mask : Cert.Pre_full_mask.Facts),
    quiescent_Kernel (hKernel := hKernel)
    ∧ quiescent_KernelIdeal (hKernelIdeal := hKernelIdeal)
    ∧ quiescent_KernelIdeal_pre_full_mask (hKernelIdeal := hKernelIdeal) (hPre_full_mask := hPre_full_mask)
    ∧ quiescent_ReferenceIdeal (hReferenceIdeal := hReferenceIdeal)
    ∧ quiescent_ReferenceIdeal_pre_full_mask (hReferenceIdeal := hReferenceIdeal) (hPre_full_mask := hPre_full_mask)
    ∧ preserves_Kernel_KernelIdeal
    ∧ algebraic_KernelIdeal_ReferenceIdeal_pre_full_mask (hKernelIdeal := hKernelIdeal) (hReferenceIdeal := hReferenceIdeal) (hPre_full_mask := hPre_full_mask)
-- ==== Pre_full_mask.lean ====
abbrev S512x52x128 : Shape := ⟨3, ![512, 52, 128]⟩
abbrev S128x512 : Shape := ⟨2, ![128, 512]⟩
abbrev S52x52 : Shape := ⟨2, ![52, 52]⟩
abbrev S_ : Shape := ⟨0, ![]⟩

class Facts : Prop where
  bcast_S_S128x512 : S_.BroadcastsInDim S128x512 (![] : Fin 0 → Fin S128x512.rank)

variable [Facts]

def fn {F : FTy → Type} [FloatOps F] (main_arg0 : FVec F S512x52x128 .f32) (main_arg1 : FVec F S128x512 .f32) (main_arg2 : FVec F S52x52 .f32) : IVec S128x512 1 :=
  let main_cst : FVec F S_ .f32 := constant S_ .f32 0x3F800000#32
  let main_v0 : FVec F S128x512 .f32 := broadcastInDim S128x512 ![] bcast_S_S128x512 main_cst
  let main_v1 : IVec S128x512 1 := cmpf .oeq main_arg1 main_v0
  main_v1
-- ==== Kernel.lean ====
abbrev S512x52x128 : Shape := ⟨3, ![512, 52, 128]⟩
abbrev S128x512 : Shape := ⟨2, ![128, 512]⟩
abbrev S52x52 : Shape := ⟨2, ![52, 52]⟩
abbrev S52x52x1 : Shape := ⟨3, ![52, 52, 1]⟩
abbrev S52x52x128 : Shape := ⟨3, ![52, 52, 128]⟩
abbrev S512x1x128 : Shape := ⟨3, ![512, 1, 128]⟩
abbrev S511x52x128 : Shape := ⟨3, ![511, 52, 128]⟩
abbrev S1x52x128 : Shape := ⟨3, ![1, 52, 128]⟩
abbrev S52x128 : Shape := ⟨2, ![52, 128]⟩
abbrev S1x128 : Shape := ⟨2, ![1, 128]⟩
abbrev S52x1 : Shape := ⟨2, ![52, 1]⟩
abbrev S128 : Shape := ⟨1, ![128]⟩
abbrev S1x1x128 : Shape := ⟨3, ![1, 1, 128]⟩

abbrev nBuf : Space → Nat
  | .hbm => 6
  | .vmem => 5
  | .smem => 0
  | _ => 0

abbrev bufTy : (tb : Table) → Fin (tcTables nBuf tb) → BufTy
  | .hbm, ⟨0, _⟩ => ⟨S512x52x128, .f32⟩
  | .hbm, ⟨1, _⟩ => ⟨S128x512, .f32⟩
  | .hbm, ⟨2, _⟩ => ⟨S52x52, .f32⟩
  | .hbm, ⟨3, _⟩ => ⟨S52x52x1, .f32⟩
  | .hbm, ⟨4, _⟩ => ⟨S52x52x128, .f32⟩
  | .hbm, ⟨5, _⟩ => ⟨S512x1x128, .i32⟩
  | .local _ .vmem, ⟨0, _⟩ => ⟨S512x52x128, .f32⟩
  | .local _ .vmem, ⟨1, _⟩ => ⟨S52x52, .f32⟩
  | .local _ .vmem, ⟨2, _⟩ => ⟨S52x52x128, .f32⟩
  | .local _ .vmem, ⟨3, _⟩ => ⟨S512x1x128, .i32⟩
  | .local _ .vmem, ⟨4, _⟩ => ⟨S511x52x128, .i32⟩
  | _, _ => ⟨S512x52x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c1_i32 : BitVec 32 := 1#32
  let c511_i32 : BitVec 32 := 511#32
  let v5 : BitVec 32 := Scalar.addi c1_i32 c511_i32
  let c1_i32_4 : BitVec 32 := 1#32
  ⟨c1_i32, v5, c1_i32_4⟩
def k0_off1 (k0_t1 : Fin k0_t1_loop.trips) : Fin 3 → Nat :=
  let c1_i32 : BitVec 32 := 1#32
  let c1_i32_4 : BitVec 32 := 1#32
  let arg5 : BitVec 32 := Scf.iv c1_i32 c1_i32_4 k0_t1
  let v24 : Index := Scalar.indexCast arg5
  let c0_13 : Index := 0#32
  let c0_14 : Index := 0#32
  ![v24.toNat, 0, 0]
def k0_off2 (k0_t1 : Fin k0_t1_loop.trips) : Fin 3 → Nat :=
  let c1_i32 : BitVec 32 := 1#32
  let c1_i32_4 : BitVec 32 := 1#32
  let arg5 : BitVec 32 := Scf.iv c1_i32 c1_i32_4 k0_t1
  let c1_i32_132 : BitVec 32 := 1#32
  let v565 : BitVec 32 := Scalar.subi arg5 c1_i32_132
  let v566 : Index := Scalar.indexCast v565
  let c0_133 : Index := 0#32
  let c0_134 : Index := 0#32
  ![v566.toNat, 0, 0]
@[reducible] def k0_t2_loop : Scf.Loop 32 :=
  let c0_i32 : BitVec 32 := 0#32
  let c511_i32_10 : BitVec 32 := 511#32
  let v22 : BitVec 32 := Scalar.addi c0_i32 c511_i32_10
  let c1_i32_11 : BitVec 32 := 1#32
  ⟨c0_i32, v22, c1_i32_11⟩
def k0_off3 (k0_t2 : Fin k0_t2_loop.trips) : Fin 3 → Nat :=
  let c510_i32 : BitVec 32 := 510#32
  let c0_i32 : BitVec 32 := 0#32
  let c1_i32_11 : BitVec 32 := 1#32
  let arg5 : BitVec 32 := Scf.iv c0_i32 c1_i32_11 k0_t2
  let v24 : BitVec 32 := Scalar.subi c510_i32 arg5
  let v25 : Index := Scalar.indexCast v24
  let c0_13 : Index := 0#32
  let c0_14 : Index := 0#32
  ![v25.toNat, 0, 0]
def k0_off4 (k0_t2 : Fin k0_t2_loop.trips) : Fin 3 → Nat :=
  let c510_i32 : BitVec 32 := 510#32
  let c0_i32 : BitVec 32 := 0#32
  let c1_i32_11 : BitVec 32 := 1#32
  let arg5 : BitVec 32 := Scf.iv c0_i32 c1_i32_11 k0_t2
  let v24 : BitVec 32 := Scalar.subi c510_i32 arg5
  let v35 : Index := Scalar.indexCast v24
  let c0_17 : Index := 0#32
  let c0_18 : Index := 0#32
  ![v35.toNat, 0, 0]
abbrev stage0_0 : Fin 1 → Memref sig .tc .vmem S512x52x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S52x52 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S52x52x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== KernelIdeal.lean ====
variable {F : FTy → Type} [FloatOps F] [Named F]
def κ : String → Option EReal := fun
  | "neg" => some ⊥
  | _ => none
-- ==== ReferenceIdeal.lean ====
abbrev S512x52x128 : Shape := ⟨3, ![512, 52, 128]⟩
abbrev S128x512 : Shape := ⟨2, ![128, 512]⟩
abbrev S52x52 : Shape := ⟨2, ![52, 52]⟩
abbrev S128x512x52 : Shape := ⟨3, ![128, 512, 52]⟩
abbrev S512x128x52 : Shape := ⟨3, ![512, 128, 52]⟩
abbrev S512x128 : Shape := ⟨2, ![512, 128]⟩
abbrev S1x128x52 : Shape := ⟨3, ![1, 128, 52]⟩
abbrev S128x52 : Shape := ⟨2, ![128, 52]⟩
abbrev S1x52 : Shape := ⟨2, ![1, 52]⟩
abbrev S52 : Shape := ⟨1, ![52]⟩
abbrev S511x128x52 : Shape := ⟨3, ![511, 128, 52]⟩
abbrev S511x128 : Shape := ⟨2, ![511, 128]⟩
abbrev S_ : Shape := ⟨0, ![]⟩
abbrev S1x128 : Shape := ⟨2, ![1, 128]⟩
abbrev S128 : Shape := ⟨1, ![128]⟩
abbrev S128x1x52 : Shape := ⟨3, ![128, 1, 52]⟩
abbrev S1x52x52 : Shape := ⟨3, ![1, 52, 52]⟩
abbrev S128x52x52 : Shape := ⟨3, ![128, 52, 52]⟩
abbrev S128x52x1 : Shape := ⟨3, ![128, 52, 1]⟩
abbrev S128x1 : Shape := ⟨2, ![128, 1]⟩
abbrev S128x1x1 : Shape := ⟨3, ![128, 1, 1]⟩
abbrev S128x1x52x1 : Shape := ⟨4, ![128, 1, 52, 1]⟩
abbrev S1 : Shape := ⟨1, ![1]⟩
abbrev S1x1x1x1 : Shape := ⟨4, ![1, 1, 1, 1]⟩
abbrev S128x2 : Shape := ⟨2, ![128, 2]⟩
abbrev S1x1x1 : Shape := ⟨3, ![1, 1, 1]⟩
abbrev S512x1x128 : Shape := ⟨3, ![512, 1, 128]⟩

abbrev nBuf : Space → Nat
  | .hbm => 192
  | .vmem => 0
  | .smem => 0
  | _ => 0

abbrev hbmTy0_0 (i : Nat) : BufTy := match i % 128 with
  | 0 => ⟨S512x52x128, .f32⟩
  | 1 => ⟨S128x512, .f32⟩
  | 2 => ⟨S52x52, .f32⟩
  | 3 => ⟨S128x512x52, .f32⟩
  | 4 => ⟨S512x128x52, .f32⟩
  | 5 => ⟨S512x128, .f32⟩
  | 6 => ⟨S1x128x52, .f32⟩
  | 7 => ⟨S128x52, .f32⟩
  | 8 => ⟨S1x52, .f32⟩
  | 9 => ⟨S52, .f32⟩
  | 10 => ⟨S1x52, .f32⟩
  | 11 => ⟨S128x52, .f32⟩
  | 12 => ⟨S128x52, .f32⟩
  | 13 => ⟨S511x128x52, .f32⟩
  | 14 => ⟨S511x128, .f32⟩
  | 15 => ⟨S_, .f32⟩
  | 16 => ⟨S511x128x52, .f32⟩
  | 17 => ⟨S_, .i32⟩
  | 18 => ⟨S511x128x52, .i32⟩
  | 19 => ⟨S_, .i32⟩
  | 20 => ⟨S511x128x52, .f32⟩
  | 21 => ⟨S511x128, .f32⟩
  | 22 => ⟨S52x52, .f32⟩
  | 23 => ⟨S_, .i32⟩
  | 24 => ⟨S128x52, .f32⟩
  | 25 => ⟨S511x128x52, .f32⟩
  | 26 => ⟨S511x128x52, .i32⟩
  | 27 => ⟨S_, .i32⟩
  | 28 => ⟨S_, .i1⟩
  | 29 => ⟨S_, .i32⟩
  | 30 => ⟨S_, .i32⟩
  | 31 => ⟨S1x128x52, .f32⟩
  | 32 => ⟨S128x52, .f32⟩
  | 33 => ⟨S_, .i32⟩
  | 34 => ⟨S1x128, .f32⟩
  | 35 => ⟨S128, .f32⟩
  | 36 => ⟨S128x1x52, .f32⟩
  | 37 => ⟨S1x52x52, .f32⟩
  | 38 => ⟨S128x52x52, .f32⟩
  | 39 => ⟨S128x52x52, .f32⟩
  | 40 => ⟨S128x52x52, .f32⟩
  | 41 => ⟨S128x52x1, .f32⟩
  | 42 => ⟨S128x52x52, .f32⟩
  | 43 => ⟨S128x52x52, .f32⟩
  | 44 => ⟨S_, .f32⟩
  | 45 => ⟨S128x52, .f32⟩
  | 46 => ⟨S128x52x52, .i32⟩
  | 47 => ⟨S_, .f32⟩
  | 48 => ⟨S_, .i32⟩
  | 49 => ⟨S128x52, .f32⟩
  | 50 => ⟨S128x52, .i32⟩
  | 51 => ⟨S128x1, .f32⟩
  | 52 => ⟨S_, .f32⟩
  | 53 => ⟨S128x1, .f32⟩
  | 54 => ⟨S128x1, .i1⟩
  | 55 => ⟨S_, .i32⟩
  | 56 => ⟨S_, .i32⟩
  | 57 => ⟨S128x52, .i1⟩
  | 58 => ⟨S128x52, .i32⟩
  | 59 => ⟨S128x52, .i32⟩
  | 60 => ⟨S1x128x52, .f32⟩
  | 61 => ⟨S_, .i32⟩
  | 62 => ⟨S_, .i32⟩
  | 63 => ⟨S511x128x52, .f32⟩
  | 64 => ⟨S1x128x52, .i32⟩
  | 65 => ⟨S_, .i32⟩
  | 66 => ⟨S_, .i32⟩
  | 67 => ⟨S511x128x52, .i32⟩
  | 68 => ⟨S_, .i32⟩
  | 69 => ⟨S_, .i32⟩
  | 70 => ⟨S1x128x52, .f32⟩
  | 71 => ⟨S512x128x52, .f32⟩
  | 72 => ⟨S_, .f32⟩
  | 73 => ⟨S128, .f32⟩
  | 74 => ⟨S128, .i32⟩
  | 75 => ⟨S_, .i32⟩
  | 76 => ⟨S128, .i32⟩
  | 77 => ⟨S128, .i32⟩
  | 78 => ⟨S128x512x52, .f32⟩
  | 79 => ⟨S128x1x1, .i32⟩
  | 80 => ⟨S128x1x52, .i32⟩
  | 81 => ⟨S_, .i32⟩
  | 82 => ⟨S128x1x52, .i32⟩
  | 83 => ⟨S128x1x52, .i1⟩
  | 84 => ⟨S_, .i32⟩
  | 85 => ⟨S128x1x52, .i32⟩
  | 86 => ⟨S128x1x52, .i32⟩
  | 87 => ⟨S128x1x52, .i32⟩
  | 88 => ⟨S128x1x52x1, .i32⟩
  | 89 => ⟨S1, .i32⟩
  | 90 => ⟨S_, .i32⟩
  | 91 => ⟨S128x1x52x1, .i32⟩
  | 92 => ⟨S128x1x52x1, .i1⟩
  | 93 => ⟨S1x1x1x1, .i32⟩
  | 94 => ⟨S128x1x52x1, .i32⟩
  | 95 => ⟨S128x1x52x1, .i1⟩
  | 96 => ⟨S128x1x52x1, .i1⟩
  | 97 => ⟨S_, .i1⟩
  | 98 => ⟨S128x1x52, .i1⟩
  | 99 => ⟨S128x1x52, .f32⟩
  | 100 => ⟨S_, .f32⟩
  | 101 => ⟨S128x1x52, .f32⟩
  | 102 => ⟨S128x1x52, .f32⟩
  | 103 => ⟨S128x52, .f32⟩
  | 104 => ⟨S128x52x1, .f32⟩
  | 105 => ⟨S1x52x52, .f32⟩
  | 106 => ⟨S128x52x52, .f32⟩
  | 107 => ⟨S128x52x52, .f32⟩
  | 108 => ⟨S128x52x52, .f32⟩
  | 109 => ⟨S128x52x52, .i32⟩
  | 110 => ⟨S_, .f32⟩
  | 111 => ⟨S_, .i32⟩
  | 112 => ⟨S128x52, .f32⟩
  | 113 => ⟨S128x52, .i32⟩
  | 114 => ⟨S128x1, .i32⟩
  | 115 => ⟨S128, .i32⟩
  | 116 => ⟨S_, .i32⟩
  | 117 => ⟨S1x128x52, .i32⟩
  | 118 => ⟨S512x128x52, .i32⟩
  | 119 => ⟨S128x512x52, .i32⟩
  | 120 => ⟨S128, .i32⟩
  | 121 => ⟨S128x1, .i32⟩
  | 122 => ⟨S_, .i32⟩
  | 123 => ⟨S128, .i32⟩
  | 124 => ⟨S128, .i1⟩
  | 125 => ⟨S_, .i32⟩
  | 126 => ⟨S128, .i32⟩
  | 127 => ⟨S128, .i32⟩
  | _ => ⟨S512x52x128, .f32⟩

abbrev hbmTy0_1 (i : Nat) : BufTy := match i % 128 with
  | 0 => ⟨S128, .i32⟩
  | 1 => ⟨S_, .i32⟩
  | 2 => ⟨S128, .i32⟩
  | 3 => ⟨S128, .i1⟩
  | 4 => ⟨S_, .i32⟩
  | 5 => ⟨S128, .i32⟩
  | 6 => ⟨S128, .i32⟩
  | 7 => ⟨S128, .i32⟩
  | 8 => ⟨S128x1, .i32⟩
  | 9 => ⟨S128x1, .i32⟩
  | 10 => ⟨S128x2, .i32⟩
  | 11 => ⟨S128x52, .i32⟩
  | 12 => ⟨S128x512x52, .i32⟩
  | 13 => ⟨S512x128x52, .i32⟩
  | 14 => ⟨S511x128x52, .i32⟩
  | 15 => ⟨S_, .i32⟩
  | 16 => ⟨S511x128, .i32⟩
  | 17 => ⟨S_, .i32⟩
  | 18 => ⟨S511x128x52, .i32⟩
  | 19 => ⟨S_, .i32⟩
  | 20 => ⟨S128, .i32⟩
  | 21 => ⟨S511x128, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S_, .i32⟩
  | 30 => ⟨S1x128x52, .i32⟩
  | 31 => ⟨S128x52, .i32⟩
  | 32 => ⟨S128x1, .i32⟩
  | 33 => ⟨S_, .i32⟩
  | 34 => ⟨S128x1, .i32⟩
  | 35 => ⟨S128x1, .i1⟩
  | 36 => ⟨S_, .i32⟩
  | 37 => ⟨S128x1, .i32⟩
  | 38 => ⟨S128x1, .i32⟩
  | 39 => ⟨S128x1, .i32⟩
  | 40 => ⟨S128x1x1, .i32⟩
  | 41 => ⟨S1, .i32⟩
  | 42 => ⟨S_, .i32⟩
  | 43 => ⟨S128x1x1, .i32⟩
  | 44 => ⟨S128x1x1, .i1⟩
  | 45 => ⟨S1x1x1, .i32⟩
  | 46 => ⟨S128x1x1, .i32⟩
  | 47 => ⟨S128x1x1, .i1⟩
  | 48 => ⟨S128x1x1, .i1⟩
  | 49 => ⟨S_, .i1⟩
  | 50 => ⟨S128x1, .i1⟩
  | 51 => ⟨S128x1, .i32⟩
  | 52 => ⟨S_, .i32⟩
  | 53 => ⟨S128x1, .i32⟩
  | 54 => ⟨S128x1, .i32⟩
  | 55 => ⟨S128, .i32⟩
  | 56 => ⟨S1x128, .i32⟩
  | 57 => ⟨S_, .i32⟩
  | 58 => ⟨S511x128, .i32⟩
  | 59 => ⟨S_, .i32⟩
  | 60 => ⟨S_, .i32⟩
  | 61 => ⟨S1x128, .i32⟩
  | 62 => ⟨S512x128, .i32⟩
  | 63 => ⟨S512x1x128, .i32⟩
  | _ => ⟨S512x52x128, .f32⟩

abbrev hbmTy (i : Nat) : BufTy := match i / 128 with
  | 0 => hbmTy0_0 i
  | 1 => hbmTy0_1 i
  | _ => ⟨S512x52x128, .f32⟩

abbrev bufTy : (tb : Table) → Fin (tcTables nBuf tb) → BufTy
  | .hbm, ⟨i, _⟩ => hbmTy i
  | _, _ => ⟨S512x52x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_c_0 : Ref sig .tc := ⟨.hbm, 19, rfl⟩
abbrev main_v14_0 : Ref sig .tc := ⟨.hbm, 20, rfl⟩
abbrev main_v14_1 : Ref sig .tc := ⟨.hbm, 21, rfl⟩
abbrev main_v14_2 : Ref sig .tc := ⟨.hbm, 22, rfl⟩
abbrev main_v14_3 : Ref sig .tc := ⟨.hbm, 23, rfl⟩
abbrev main_v14_4 : Ref sig .tc := ⟨.hbm, 24, rfl⟩
abbrev main_v14_5 : Ref sig .tc := ⟨.hbm, 25, rfl⟩
abbrev main_v14_6 : Ref sig .tc := ⟨.hbm, 26, rfl⟩
abbrev main_while0c_c_16 : Ref sig .tc := ⟨.hbm, 27, rfl⟩
abbrev main_while0c_v61 : Ref sig .tc := ⟨.hbm, 28, rfl⟩
abbrev main_while0b_call0_c : Ref sig .tc := ⟨.hbm, 29, rfl⟩
abbrev main_while0b_call0_c_0 : Ref sig .tc := ⟨.hbm, 30, rfl⟩
abbrev main_while0b_call0_v0 : Ref sig .tc := ⟨.hbm, 31, rfl⟩
abbrev main_while0b_v61 : Ref sig .tc := ⟨.hbm, 32, rfl⟩
abbrev main_while0b_call1_c : Ref sig .tc := ⟨.hbm, 33, rfl⟩
abbrev main_while0b_call1_v0 : Ref sig .tc := ⟨.hbm, 34, rfl⟩
abbrev main_while0b_v62 : Ref sig .tc := ⟨.hbm, 35, rfl⟩
abbrev main_while0b_v63 : Ref sig .tc := ⟨.hbm, 36, rfl⟩
abbrev main_while0b_v64 : Ref sig .tc := ⟨.hbm, 37, rfl⟩
abbrev main_while0b_v65 : Ref sig .tc := ⟨.hbm, 38, rfl⟩
abbrev main_while0b_v66 : Ref sig .tc := ⟨.hbm, 39, rfl⟩
abbrev main_while0b_v67 : Ref sig .tc := ⟨.hbm, 40, rfl⟩
abbrev main_while0b_v68 : Ref sig .tc := ⟨.hbm, 41, rfl⟩
abbrev main_while0b_v69 : Ref sig .tc := ⟨.hbm, 42, rfl⟩
abbrev main_while0b_v70 : Ref sig .tc := ⟨.hbm, 43, rfl⟩
abbrev main_while0b_cst_16 : Ref sig .tc := ⟨.hbm, 44, rfl⟩
abbrev main_while0b_v71 : Ref sig .tc := ⟨.hbm, 45, rfl⟩
abbrev main_while0b_call2_v0 : Ref sig .tc := ⟨.hbm, 46, rfl⟩
abbrev main_while0b_call2_cst : Ref sig .tc := ⟨.hbm, 47, rfl⟩
abbrev main_while0b_call2_c : Ref sig .tc := ⟨.hbm, 48, rfl⟩
abbrev main_while0b_call2_v1_0 : Ref sig .tc := ⟨.hbm, 49, rfl⟩
abbrev main_while0b_v72 : Ref sig .tc := ⟨.hbm, 50, rfl⟩
abbrev main_while0b_v73 : Ref sig .tc := ⟨.hbm, 51, rfl⟩
abbrev main_while0b_cst_17 : Ref sig .tc := ⟨.hbm, 52, rfl⟩
abbrev main_while0b_v74 : Ref sig .tc := ⟨.hbm, 53, rfl⟩
abbrev main_while0b_v75 : Ref sig .tc := ⟨.hbm, 54, rfl⟩
abbrev main_while0b_c_18 : Ref sig .tc := ⟨.hbm, 55, rfl⟩
abbrev main_while0b_call3_v0 : Ref sig .tc := ⟨.hbm, 56, rfl⟩
abbrev main_while0b_call3_v1 : Ref sig .tc := ⟨.hbm, 57, rfl⟩
abbrev main_while0b_call3_v2 : Ref sig .tc := ⟨.hbm, 58, rfl⟩
abbrev main_while0b_v76 : Ref sig .tc := ⟨.hbm, 59, rfl⟩
abbrev main_while0b_call4_v0 : Ref sig .tc := ⟨.hbm, 60, rfl⟩
abbrev main_while0b_call4_c : Ref sig .tc := ⟨.hbm, 61, rfl⟩
abbrev main_while0b_call4_c_0 : Ref sig .tc := ⟨.hbm, 62, rfl⟩
abbrev main_while0b_v77 : Ref sig .tc := ⟨.hbm, 63, rfl⟩
abbrev main_while0b_call5_v0 : Ref sig .tc := ⟨.hbm, 64, rfl⟩
abbrev main_while0b_call5_c : Ref sig .tc := ⟨.hbm, 65, rfl⟩
abbrev main_while0b_call5_c_0 : Ref sig .tc := ⟨.hbm, 66, rfl⟩
abbrev main_while0b_v78 : Ref sig .tc := ⟨.hbm, 67, rfl⟩
abbrev main_while0b_c_19 : Ref sig .tc := ⟨.hbm, 68, rfl⟩
abbrev main_while0b_v79 : Ref sig .tc := ⟨.hbm, 69, rfl⟩
abbrev main_v15 : Ref sig .tc := ⟨.hbm, 70, rfl⟩
abbrev main_v16 : Ref sig .tc := ⟨.hbm, 71, rfl⟩
abbrev main_cst_1 : Ref sig .tc := ⟨.hbm, 72, rfl⟩
abbrev main_v17 : Ref sig .tc := ⟨.hbm, 73, rfl⟩
abbrev main_v18 : Ref sig .tc := ⟨.hbm, 74, rfl⟩
abbrev main_c_2 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_call6_c : Ref sig .tc := ⟨.hbm, 81, rfl⟩
abbrev main_call6_v0 : Ref sig .tc := ⟨.hbm, 82, rfl⟩
abbrev main_call6_v1 : Ref sig .tc := ⟨.hbm, 83, rfl⟩
abbrev main_call6_c_0 : Ref sig .tc := ⟨.hbm, 84, rfl⟩
abbrev main_call6_v2 : Ref sig .tc := ⟨.hbm, 85, rfl⟩
abbrev main_call6_v3 : Ref sig .tc := ⟨.hbm, 86, rfl⟩
abbrev main_call6_v4 : Ref sig .tc := ⟨.hbm, 87, rfl⟩
abbrev main_call6_v5 : Ref sig .tc := ⟨.hbm, 88, rfl⟩
abbrev main_call6_c_1 : Ref sig .tc := ⟨.hbm, 89, rfl⟩
abbrev main_call6_c_2 : Ref sig .tc := ⟨.hbm, 90, rfl⟩
abbrev main_call6_v6 : Ref sig .tc := ⟨.hbm, 91, rfl⟩
abbrev main_call6_v7 : Ref sig .tc := ⟨.hbm, 92, rfl⟩
abbrev main_call6_v8 : Ref sig .tc := ⟨.hbm, 93, rfl⟩
abbrev main_call6_v9 : Ref sig .tc := ⟨.hbm, 94, rfl⟩
abbrev main_call6_v10 : Ref sig .tc := ⟨.hbm, 95, rfl⟩
abbrev main_call6_v11 : Ref sig .tc := ⟨.hbm, 96, rfl⟩
abbrev main_call6_c_3 : Ref sig .tc := ⟨.hbm, 97, rfl⟩
abbrev main_call6_v12 : Ref sig .tc := ⟨.hbm, 98, rfl⟩
abbrev main_call6_v13 : Ref sig .tc := ⟨.hbm, 99, rfl⟩
abbrev main_call6_cst : Ref sig .tc := ⟨.hbm, 100, rfl⟩
abbrev main_call6_v14 : Ref sig .tc := ⟨.hbm, 101, rfl⟩
abbrev main_v24 : Ref sig .tc := ⟨.hbm, 102, rfl⟩
abbrev main_v25 : Ref sig .tc := ⟨.hbm, 103, rfl⟩
abbrev main_v26 : Ref sig .tc := ⟨.hbm, 104, rfl⟩
abbrev main_v27 : Ref sig .tc := ⟨.hbm, 105, rfl⟩
abbrev main_v28 : Ref sig .tc := ⟨.hbm, 106, rfl⟩
abbrev main_v29 : Ref sig .tc := ⟨.hbm, 107, rfl⟩
abbrev main_v30 : Ref sig .tc := ⟨.hbm, 108, rfl⟩
abbrev main_call7_v0 : Ref sig .tc := ⟨.hbm, 109, rfl⟩
abbrev main_call7_cst : Ref sig .tc := ⟨.hbm, 110, rfl⟩
abbrev main_call7_c : Ref sig .tc := ⟨.hbm, 111, rfl⟩
abbrev main_call7_v1_0 : Ref sig .tc := ⟨.hbm, 112, rfl⟩
abbrev main_v31 : Ref sig .tc := ⟨.hbm, 113, rfl⟩
abbrev main_v32 : Ref sig .tc := ⟨.hbm, 114, rfl⟩
abbrev main_v33 : Ref sig .tc := ⟨.hbm, 115, rfl⟩
abbrev main_c_3 : Ref sig .tc := ⟨.hbm, 116, rfl⟩
abbrev main_v34 : Ref sig .tc := ⟨.hbm, 117, rfl⟩
abbrev main_v35 : Ref sig .tc := ⟨.hbm, 118, rfl⟩
abbrev main_v36 : Ref sig .tc := ⟨.hbm, 119, rfl⟩
abbrev main_v37 : Ref sig .tc := ⟨.hbm, 120, rfl⟩
abbrev main_v38 : Ref sig .tc := ⟨.hbm, 121, rfl⟩
abbrev main_c_4 : Ref sig .tc := ⟨.hbm, 122, rfl⟩
abbrev main_v39 : Ref sig .tc := ⟨.hbm, 123, rfl⟩
abbrev main_v40 : Ref sig .tc := ⟨.hbm, 124, rfl⟩
abbrev main_c_5 : Ref sig .tc := ⟨.hbm, 125, rfl⟩
abbrev main_v41 : Ref sig .tc := ⟨.hbm, 126, rfl⟩
abbrev main_v42 : Ref sig .tc := ⟨.hbm, 127, rfl⟩
abbrev main_v43 : Ref sig .tc := ⟨.hbm, 128, rfl⟩
abbrev main_c_6 : Ref sig .tc := ⟨.hbm, 129, rfl⟩
abbrev main_v44 : Ref sig .tc := ⟨.hbm, 130, rfl⟩
abbrev main_v45 : Ref sig .tc := ⟨.hbm, 131, rfl⟩
abbrev main_c_7 : Ref sig .tc := ⟨.hbm, 132, rfl⟩
abbrev main_v46 : Ref sig .tc := ⟨.hbm, 133, rfl⟩
abbrev main_v47 : Ref sig .tc := ⟨.hbm, 134, rfl⟩
abbrev main_v48 : Ref sig .tc := ⟨.hbm, 135, rfl⟩
abbrev main_v49 : Ref sig .tc := ⟨.hbm, 136, rfl⟩
abbrev main_v50 : Ref sig .tc := ⟨.hbm, 137, rfl⟩
abbrev main_v51 : Ref sig .tc := ⟨.hbm, 138, rfl⟩
abbrev main_v52 : Ref sig .tc := ⟨.hbm, 139, rfl⟩
abbrev main_v53 : Ref sig .tc := ⟨.hbm, 140, rfl⟩
abbrev main_v54 : Ref sig .tc := ⟨.hbm, 141, rfl⟩
abbrev main_v55 : Ref sig .tc := ⟨.hbm, 142, rfl⟩
abbrev main_c_8 : Ref sig .tc := ⟨.hbm, 143, rfl⟩
abbrev main_v56 : Ref sig .tc := ⟨.hbm, 144, rfl⟩
abbrev main_c_9 : Ref sig .tc := ⟨.hbm, 145, rfl⟩
abbrev main_v57_0 : Ref sig .tc := ⟨.hbm, 146, rfl⟩
abbrev main_v57_1 : Ref sig .tc := ⟨.hbm, 147, rfl⟩
abbrev main_v57_2 : Ref sig .tc := ⟨.hbm, 148, rfl⟩
abbrev main_v57_3 : Ref sig .tc := ⟨.hbm, 149, rfl⟩
abbrev main_while1c_c_13 : Ref sig .tc := ⟨.hbm, 150, rfl⟩
abbrev main_while1c_v61 : Ref sig .tc := ⟨.hbm, 151, rfl⟩
abbrev main_while1b_c_13 : Ref sig .tc := ⟨.hbm, 152, rfl⟩
abbrev main_while1b_v61 : Ref sig .tc := ⟨.hbm, 153, rfl⟩
abbrev main_while1b_c_14 : Ref sig .tc := ⟨.hbm, 154, rfl⟩
abbrev main_while1b_v62 : Ref sig .tc := ⟨.hbm, 155, rfl⟩
abbrev main_while1b_call8_c : Ref sig .tc := ⟨.hbm, 156, rfl⟩
abbrev main_while1b_call8_c_0 : Ref sig .tc := ⟨.hbm, 157, rfl⟩
abbrev main_while1b_call8_v0 : Ref sig .tc := ⟨.hbm, 158, rfl⟩
abbrev main_while1b_v63 : Ref sig .tc := ⟨.hbm, 159, rfl⟩
abbrev main_while1b_v64 : Ref sig .tc := ⟨.hbm, 160, rfl⟩
abbrev main_while1b_call9_c : Ref sig .tc := ⟨.hbm, 161, rfl⟩
abbrev main_while1b_call9_v0 : Ref sig .tc := ⟨.hbm, 162, rfl⟩
abbrev main_while1b_call9_v1 : Ref sig .tc := ⟨.hbm, 163, rfl⟩
abbrev main_while1b_call9_c_0 : Ref sig .tc := ⟨.hbm, 164, rfl⟩
abbrev main_while1b_call9_v2 : Ref sig .tc := ⟨.hbm, 165, rfl⟩
abbrev main_while1b_call9_v3 : Ref sig .tc := ⟨.hbm, 166, rfl⟩
abbrev main_while1b_call9_v4 : Ref sig .tc := ⟨.hbm, 167, rfl⟩
abbrev main_while1b_call9_v5 : Ref sig .tc := ⟨.hbm, 168, rfl⟩
abbrev main_while1b_call9_c_1 : Ref sig .tc := ⟨.hbm, 169, rfl⟩
abbrev main_while1b_call9_c_2 : Ref sig .tc := ⟨.hbm, 170, rfl⟩
abbrev main_while1b_call9_v6 : Ref sig .tc := ⟨.hbm, 171, rfl⟩
abbrev main_while1b_call9_v7 : Ref sig .tc := ⟨.hbm, 172, rfl⟩
abbrev main_while1b_call9_v8 : Ref sig .tc := ⟨.hbm, 173, rfl⟩
abbrev main_while1b_call9_v9 : Ref sig .tc := ⟨.hbm, 174, rfl⟩
abbrev main_while1b_call9_v10 : Ref sig .tc := ⟨.hbm, 175, rfl⟩
abbrev main_while1b_call9_v11 : Ref sig .tc := ⟨.hbm, 176, rfl⟩
abbrev main_while1b_call9_c_3 : Ref sig .tc := ⟨.hbm, 177, rfl⟩
abbrev main_while1b_call9_v12 : Ref sig .tc := ⟨.hbm, 178, rfl⟩
abbrev main_while1b_call9_v13 : Ref sig .tc := ⟨.hbm, 179, rfl⟩
abbrev main_while1b_call9_c_4 : Ref sig .tc := ⟨.hbm, 180, rfl⟩
abbrev main_while1b_call9_v14 : Ref sig .tc := ⟨.hbm, 181, rfl⟩
abbrev main_while1b_v65 : Ref sig .tc := ⟨.hbm, 182, rfl⟩
abbrev main_while1b_v66 : Ref sig .tc := ⟨.hbm, 183, rfl⟩
abbrev main_while1b_call10_v0 : Ref sig .tc := ⟨.hbm, 184, rfl⟩
abbrev main_while1b_call10_c : Ref sig .tc := ⟨.hbm, 185, rfl⟩
abbrev main_while1b_v67 : Ref sig .tc := ⟨.hbm, 186, rfl⟩
abbrev main_while1b_c_15 : Ref sig .tc := ⟨.hbm, 187, rfl⟩
abbrev main_while1b_v68 : Ref sig .tc := ⟨.hbm, 188, rfl⟩
abbrev main_v58 : Ref sig .tc := ⟨.hbm, 189, rfl⟩
abbrev main_v59 : Ref sig .tc := ⟨.hbm, 190, rfl⟩
abbrev main_v60 : Ref sig .tc := ⟨.hbm, 191, rfl⟩

abbrev nD : Nat := 1
abbrev τ : Topo := Topo.v7x

variable {F : FTy → Type} [FloatOps F]

abbrev main_while0_count : Scf.Loop 32 := ⟨0#32, 511#32, 1#32⟩

abbrev main_while1_count : Scf.Loop 32 := ⟨0#32, 511#32, 1#32⟩
-- ==== Proof.KernelScan.lean ====
module

public import proofs.«01_k».proof.Proof.Gen.KernelIdeal.Frame.Runs

/-! One trip of each of the kernel's two loops, as plain functions of the rows it loads: the forward
    trip scans the 52 candidates in four chunks of 13 and joins the chunks in a tree. -/

@[expose] public section

set_option maxRecDepth 16384

noncomputable section

namespace Cert.KernelIdeal.Val

open Cert.KernelIdeal Cert.KernelIdeal.Gen
open Idealize.ShloMosaic Idealize.ShloMosaic.TcCoe Idealize.ShloMosaic.Tactic

variable {F : FTy → Type} [FloatOps F] [Named F]

theorem rowInb (p : Fin 52) : ∀ a, (![p.val, 0, 0] : Fin 3 → Nat) a + S1x52x128.size a ≤ S52x52x128.size a := by
  have := p.isLt
  intro a; fin_cases a <;> simp [S1x52x128, S52x52x128] <;> omega

theorem rowSlices (p : Fin 52) : S52x128.Slices ![p.val, 0] S1x128 := by
  revert p; decide

/-- Row `p` of the broadcast transitions, as the kernel loads it. -/
def loadT (arg2 : Memref sig .tc .vmem S52x52x128 .f32) (X2 : BufTy.Contents (Elt F) arg2.view.ty) (p : Fin 52) : Vec F S1x52x128 .f32 :=
  View.readAt (Elt F) arg2.view (Rect.unit (s := S52x52x128) ![p.val, 0, 0] S1x52x128.size (rowInb p)).toLoadRect X2

/-- The candidate scores from previous tag `p`: the emission plus the transition, plus the previous
    partition's entry `p`. -/
def cand (acc : FVec F S52x128 .f32) (row : Vec F S1x52x128 .f32) (L : Fin 52 → Vec F S1x52x128 .f32) (p : Fin 52) : FVec F S52x128 .f32 :=
  addf (addf (shapeCast S52x128 row shapeCasts_S1x52x128_S52x128) (shapeCast S52x128 (L p) shapeCasts_S1x52x128_S52x128))
    (broadcastTo S52x128 (extractStridedSlice S1x128 ![p.val, 0] acc (rowSlices p)) broadcasts_S1x128_S52x128)

/-- The running maximum and its index over the candidates `lo, lo+1, …, lo+n-1`. -/
def scan (acc : FVec F S52x128 .f32) (row : Vec F S1x52x128 .f32) (L : Fin 52 → Vec F S1x52x128 .f32) (lo : ℕ) : ℕ → FVec F S52x128 .f32 × IVec S52x128 32
  | 0 => (broadcast S52x128 (Named.named κ "neg" 0xFF61B1E6#32), broadcast S52x128 0#32)
  | n + 1 =>
    (maximumf (scan acc row L lo n).1 (cand acc row L (Fin.ofNat 52 (lo + n))),
     select (cmpf .ogt (cand acc row L (Fin.ofNat 52 (lo + n))) (scan acc row L lo n).1) (broadcast S52x128 (BitVec.ofNat 32 (lo + n))) (scan acc row L lo n).2)

/-- Two scans joined: the right one wins where its maximum is strictly larger. -/
def join (a b : FVec F S52x128 .f32 × IVec S52x128 32) : FVec F S52x128 .f32 × IVec S52x128 32 :=
  (maximumf a.1 b.1, select (cmpf .ogt b.1 a.1) b.2 a.2)

/-- The forward trip's result: new partition and back pointers. -/
def fwdStep (acc : FVec F S52x128 .f32) (row : Vec F S1x52x128 .f32) (L : Fin 52 → Vec F S1x52x128 .f32) : FVec F S52x128 .f32 × IVec S52x128 32 :=
  join (join (scan acc row L 0 13) (scan acc row L 13 13)) (join (scan acc row L 26 13) (scan acc row L 39 13))

set_option maxHeartbeats 4000000 in
theorem tripR1 (c : Dev nD) (arg0 : Memref sig .tc .vmem S512x52x128 .f32) (harg0 : arg0.IsWhole) (arg1 : Memref sig .tc .vmem S52x52 .f32) (harg1 : arg1.IsWhole) (arg2 : Memref sig .tc .vmem S52x52x128 .f32) (harg2 : arg2.IsWhole) (arg3 : Memref sig .tc .vmem S512x1x128 .i32) (harg3 : arg3.IsWhole) (arg4 : Memref sig .tc .vmem S511x52x128 .i32) (harg4 : arg4.IsWhole)
    (X0 : BufTy.Contents (Elt F) arg0.view.ty) (X2 : BufTy.Contents (Elt F) arg2.view.ty) (k : Fin k0_t1_loop.trips) (acc : FVec F S52x128 .f32) :
    tripR_k0_t1 Variants.none c none arg0 harg0 arg1 harg1 arg2 harg2 arg3 harg3 arg4 harg4 X0 X2 k acc
      = (fwdStep acc (View.readAt (Elt F) arg0.view (Rect.unit (s := S512x52x128) (k0_off1 k) S1x52x128.size (k0_off1_inb k)).toLoadRect X0) (loadT arg2 X2)).1 := by
  unfold tripR_k0_t1 trip_k0_t1
  rfl

set_option maxHeartbeats 4000000 in
theorem tripL1 (c : Dev nD) (arg0 : Memref sig .tc .vmem S512x52x128 .f32) (harg0 : arg0.IsWhole) (arg1 : Memref sig .tc .vmem S52x52 .f32) (harg1 : arg1.IsWhole) (arg2 : Memref sig .tc .vmem S52x52x128 .f32) (harg2 : arg2.IsWhole) (arg3 : Memref sig .tc .vmem S512x1x128 .i32) (harg3 : arg3.IsWhole) (arg4 : Memref sig .tc .vmem S511x52x128 .i32) (harg4 : arg4.IsWhole)
    (X0 : BufTy.Contents (Elt F) arg0.view.ty) (X2 : BufTy.Contents (Elt F) arg2.view.ty) (k : Fin k0_t1_loop.trips) (acc : FVec F S52x128 .f32) :
    tripL_k0_t1 Variants.none c none arg0 harg0 arg1 harg1 arg2 harg2 arg3 harg3 arg4 harg4 X0 X2 k acc
      = [⟨Rect.unit (s := S511x52x128) (k0_off2 k) S1x52x128.size (k0_off2_inb k),
          shapeCast S1x52x128 (shapeCast S1x52x128 (fwdStep acc (View.readAt (Elt F) arg0.view (Rect.unit (s := S512x52x128) (k0_off1 k) S1x52x128.size (k0_off1_inb k)).toLoadRect X0) (loadT arg2 X2)).2 shapeCasts_S52x128_S1x52x128) shapeCasts_S1x52x128_S1x52x128⟩] := by
  unfold tripL_k0_t1 trip_k0_t1
  rfl

theorem tripR2 (c : Dev nD) (arg0 : Memref sig .tc .vmem S512x52x128 .f32) (harg0 : arg0.IsWhole) (arg1 : Memref sig .tc .vmem S52x52 .f32) (harg1 : arg1.IsWhole) (arg2 : Memref sig .tc .vmem S52x52x128 .f32) (harg2 : arg2.IsWhole) (arg3 : Memref sig .tc .vmem S512x1x128 .i32) (harg3 : arg3.IsWhole) (arg4 : Memref sig .tc .vmem S511x52x128 .i32) (harg4 : arg4.IsWhole)
    (X4 : BufTy.Contents (Elt F) arg4.view.ty) (k : Fin k0_t2_loop.trips) (acc : IVec S1x128 32) :
    tripR_k0_t2 (F := F) Variants.none c none arg0 harg0 arg1 harg1 arg2 harg2 arg3 harg3 arg4 harg4 X4 k acc
      = k0_pay4 acc (View.readAt (Elt F) arg4.view (Rect.unit (s := S511x52x128) (k0_off3 k) S1x52x128.size (k0_off3_inb k)).toLoadRect X4) := by
  unfold tripR_k0_t2 trip_k0_t2
  rfl

theorem tripL2 (c : Dev nD) (arg0 : Memref sig .tc .vmem S512x52x128 .f32) (harg0 : arg0.IsWhole) (arg1 : Memref sig .tc .vmem S52x52 .f32) (harg1 : arg1.IsWhole) (arg2 : Memref sig .tc .vmem S52x52x128 .f32) (harg2 : arg2.IsWhole) (arg3 : Memref sig .tc .vmem S512x1x128 .i32) (harg3 : arg3.IsWhole) (arg4 : Memref sig .tc .vmem S511x52x128 .i32) (harg4 : arg4.IsWhole)
    (X4 : BufTy.Contents (Elt F) arg4.view.ty) (k : Fin k0_t2_loop.trips) (acc : IVec S1x128 32) :
    tripL_k0_t2 (F := F) Variants.none c none arg0 harg0 arg1 harg1 arg2 harg2 arg3 harg3 arg4 harg4 X4 k acc
      = [⟨Rect.unit (s := S512x1x128) (k0_off4 k) S1x1x128.size (k0_off4_inb k),
          k0_pay5 acc (View.readAt (Elt F) arg4.view (Rect.unit (s := S511x52x128) (k0_off3 k) S1x52x128.size (k0_off3_inb k)).toLoadRect X4)⟩] := by
  unfold tripL_k0_t2 trip_k0_t2
  rfl

end Cert.KernelIdeal.Val
-- ==== Proof.KernelMath.lean ====
module

public import proofs.«01_k».proof.Proof.KernelScan
public import Idealize.ShloMosaic.Lib.WritesUnit
public import Idealize.ShloMosaic.Lib.VecWindow
public import Idealize.ShloMosaic.Lib.ValueLayout

/-! What the kernel's two loops leave: the partition and the back pointers before each forward trip,
    the pointer before each backward trip, and the decoded array they make. -/

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx

variable {F : FTy → Type} [FloatOps F] [Named F]

/-- Time step `k` of the emissions. -/
def rowF (x0 : Vec F S512x52x128 .f32) (k : Fin 512) : Vec F S1x52x128 .f32 := fun j => x0 (ix3 k (j 1) (j 2))

/-- Row `p` of the broadcast transitions. -/
def rowT (x2 : Vec F S52x52x128 .f32) (p : Fin 52) : Vec F S1x52x128 .f32 := fun j => x2 (ix3 p (j 1) (j 2))

/-- The transitions into the stop tag. -/
def colStop (x1 : Vec F S52x52 .f32) : Vec F S52x1 .f32 := fun j => x1 (ix2 (j 0) 51)

/-- The partition after `k` forward trips, with the back pointers of the last of them. -/
def kst (x0 : Vec F S512x52x128 .f32) (x2 : Vec F S52x52x128 .f32) : ℕ → FVec F S52x128 .f32 × IVec S52x128 32
  | 0 => (k0_pay1 (rowF x0 0) (rowT x2 50), fun _ => 0#32)
  | k + 1 => fwdStep (kst x0 x2 k).1 (rowF x0 (Fin.ofNat 512 (k + 1))) (rowT x2)

/-- The pointer after `k` backward trips. -/
def kptr (x0 : Vec F S512x52x128 .f32) (x1 : Vec F S52x52 .f32) (x2 : Vec F S52x52x128 .f32) : ℕ → IVec S1x128 32
  | 0 => k0_pay2 (kst x0 x2 511).1 (colStop x1)
  | k + 1 => k0_pay4 (F := F) (kptr x0 x1 x2 k) (fun j => (kst x0 x2 (511 - k)).2 (ix2 (j 1) (j 2)))

/-- The decoded array. -/
def outV (x0 : Vec F S512x52x128 .f32) (x1 : Vec F S52x52 .f32) (x2 : Vec F S52x52x128 .f32) : Vec F S512x1x128 .i32 :=
  fun y => kptr x0 x1 x2 (511 - (y 0).val) (ix2 0 (y 2))

theorem trips1 : k0_t1_loop.trips = 511 := by decide +kernel
theorem trips2 : k0_t2_loop.trips = 511 := by decide +kernel

theorem read_rowF {arg0 : Memref sig .tc .vmem S512x52x128 .f32} (harg0 : arg0.IsWhole) (x0 : Vec F S512x52x128 .f32) (k : Fin 512)
    {off : Fin 3 → ℕ} (inb : ∀ a, off a + S1x52x128.size a ≤ S512x52x128.size a) (h : off = ![k.val, 0, 0]) :
    View.readAt (Elt F) arg0.view (Rect.unit (s := S512x52x128) off S1x52x128.size inb).toLoadRect (harg0.unread x0) = rowF x0 k := by
  subst h
  funext j
  have hj : (j 0).val < 1 := (j 0).isLt
  refine (congrFun (harg0.read_unread (Val := Elt F) x0) _).trans (congrArg x0 (funext fun a => Fin.ext ?_))
  fin_cases a
  · show k.val + 1 * (j 0).val = k.val; omega
  · show 0 + 1 * (j 1).val = (j 1).val; omega
  · show 0 + 1 * (j 2).val = (j 2).val; omega

theorem read_rowT {arg2 : Memref sig .tc .vmem S52x52x128 .f32} (harg2 : arg2.IsWhole) (x2 : Vec F S52x52x128 .f32) (p : Fin 52)
    (inb : ∀ a, (![p.val, 0, 0] : Fin 3 → ℕ) a + S1x52x128.size a ≤ S52x52x128.size a) :
    View.readAt (Elt F) arg2.view (Rect.unit (s := S52x52x128) ![p.val, 0, 0] S1x52x128.size inb).toLoadRect (harg2.unread x2) = rowT x2 p := by
  funext j
  have hj : (j 0).val < 1 := (j 0).isLt
  refine (congrFun (harg2.read_unread (Val := Elt F) x2) _).trans (congrArg x2 (funext fun a => Fin.ext ?_))
  fin_cases a
  · show p.val + 1 * (j 0).val = p.val; omega
  · show 0 + 1 * (j 1).val = (j 1).val; omega
  · show 0 + 1 * (j 2).val = (j 2).val; omega

theorem read_col {arg1 : Memref sig .tc .vmem S52x52 .f32} (harg1 : arg1.IsWhole) (x1 : Vec F S52x52 .f32)
    (inb : ∀ a, (![0, 51] : Fin 2 → ℕ) a + S52x1.size a ≤ S52x52.size a) :
    View.readAt (Elt F) arg1.view (Rect.unit (s := S52x52) ![0, 51] S52x1.size inb).toLoadRect (harg1.unread x1) = colStop x1 := by
  funext j
  have hj : (j 1).val < 1 := (j 1).isLt
  refine (congrFun (harg1.read_unread (Val := Elt F) x1) _).trans (congrArg x1 (funext fun a => Fin.ext ?_))
  fin_cases a
  · show 0 + 1 * (j 0).val = (j 0).val; omega
  · show 51 + 1 * (j 1).val = 51; omega

/-- A row of back pointers, loaded from a buffer that holds every row. -/
theorem read_bps (arg4 : Memref sig .tc .vmem S511x52x128 .i32) (X4 : BufTy.Contents (Elt F) arg4.view.ty) (g : ℕ → IVec S52x128 32) (n : ℕ) (_hn : n < 511)
    {off : Fin 3 → ℕ} (inb : ∀ a, off a + S1x52x128.size a ≤ S511x52x128.size a) (h : off = ![n, 0, 0])
    (hX4 : ∀ y : S511x52x128.Idx, View.read (Elt F) arg4.view X4 y = g ((y 0).val + 1) (ix2 (y 1) (y 2))) :
    View.readAt (Elt F) arg4.view (Rect.unit (s := S511x52x128) off S1x52x128.size inb).toLoadRect X4 = fun j => g (n + 1) (ix2 (j 1) (j 2)) := by
  subst h
  funext j
  have hj : (j 0).val < 1 := (j 0).isLt
  have key : ∀ z : S511x52x128.Idx, (z 0).val = n → (z 1).val = (j 1).val → (z 2).val = (j 2).val →
      g ((z 0).val + 1) (ix2 (z 1) (z 2)) = g (n + 1) (ix2 (j 1) (j 2)) := fun z h0 h1 h2 => by
    rw [h0, show z 1 = j 1 from Fin.ext h1, show z 2 = j 2 from Fin.ext h2]
  refine (hX4 _).trans (key _ ?_ ?_ ?_)
  · show n + 1 * (j 0).val = n; omega
  · show 0 + 1 * (j 1).val = (j 1).val; omega
  · show 0 + 1 * (j 2).val = (j 2).val; omega

section Loops

variable (c : Dev nD) (arg0 : Memref sig .tc .vmem S512x52x128 .f32) (harg0 : arg0.IsWhole) (arg1 : Memref sig .tc .vmem S52x52 .f32) (harg1 : arg1.IsWhole) (arg2 : Memref sig .tc .vmem S52x52x128 .f32) (harg2 : arg2.IsWhole) (arg3 : Memref sig .tc .vmem S512x1x128 .i32) (harg3 : arg3.IsWhole) (arg4 : Memref sig .tc .vmem S511x52x128 .i32) (harg4 : arg4.IsWhole)
variable (x0 : Vec F S512x52x128 .f32) (x1 : Vec F S52x52 .f32) (x2 : Vec F S52x52x128 .f32)

/-- The forward loop's state before trip `k`, from the kernel's own initial value. -/
abbrev fst1 (k : ℕ) := st_k0_t1 Variants.none c none arg0 harg0 arg1 harg1 arg2 harg2 arg3 harg3 arg4 harg4 (harg0.unread x0) (harg2.unread x2) (k0_pay1 (rowF x0 0) (rowT x2 50)) k

theorem fst1_succ (k : ℕ) (hk : k < 511) (hv : (fst1 c arg0 harg0 arg1 harg1 arg2 harg2 arg3 harg3 arg4 harg4 x0 x2 k).1 = (kst x0 x2 k).1) :
    fst1 c arg0 harg0 arg1 harg1 arg2 harg2 arg3 harg3 arg4 harg4 x0 x2 (k + 1)
      = ((kst x0 x2 (k + 1)).1,
          ⟨Rect.unit (s := S511x52x128) (k0_off2 ⟨k, trips1 ▸ hk⟩) S1x52x128.size (k0_off2_inb _),
            shapeCast S1x52x128 (shapeCast S1x52x128 (kst x0 x2 (k + 1)).2 shapeCasts_S52x128_S1x52x128) shapeCasts_S1x52x128_S1x52x128⟩
          :: (fst1 c arg0 harg0 arg1 harg1 arg2 harg2 arg3 harg3 arg4 harg4 x0 x2 k).2) := by
  have h := st_k0_t1_succ Variants.none c none arg0 harg0 arg1 harg1 arg2 harg2 arg3 harg3 arg4 harg4 (harg0.unread x0) (harg2.unread x2) (k0_pay1 (rowF x0 0) (rowT x2 50)) ⟨k, trips1 ▸ hk⟩
  have hr : View.readAt (Elt F) arg0.view (Rect.unit (s := S512x52x128) (k0_off1 ⟨k, trips1 ▸ hk⟩) S1x52x128.size (k0_off1_inb _)).toLoadRect (harg0.unread x0) = rowF x0 (Fin.ofNat 512 (k + 1)) :=
    read_rowF harg0 x0 _ _ (by rw [k0_off1_eq]; simp [Fin.ofNat, Nat.mod_eq_of_lt (show k + 1 < 512 by omega)])
  have hT : loadT arg2 (harg2.unread x2) = rowT x2 := funext fun p => read_rowT harg2 x2 p _
  refine h.trans ?_
  rw [tripR1, tripL1, hr, hT]
  refine Prod.ext ?_ ?_
  · show (fwdStep (fst1 c arg0 harg0 arg1 harg1 arg2 harg2 arg3 harg3 arg4 harg4 x0 x2 k).1 _ _).1 = _
    rw [hv]; rfl
  · show _ :: (fst1 c arg0 harg0 arg1 harg1 arg2 harg2 arg3 harg3 arg4 harg4 x0 x2 k).2 = _ :: _
    have e : (fwdStep (fst1 c arg0 harg0 arg1 harg1 arg2 harg2 arg3 harg3 arg4 harg4 x0 x2 k).1 (rowF x0 (Fin.ofNat 512 (k + 1))) (rowT x2)) = kst x0 x2 (k + 1) := by rw [hv]; rfl
    congr 1
    rw [← e]

theorem fst1_val (k : ℕ) (hk : k ≤ 511) : (fst1 c arg0 harg0 arg1 harg1 arg2 harg2 arg3 harg3 arg4 harg4 x0 x2 k).1 = (kst x0 x2 k).1 := by
  induction k with
  | zero => rfl
  | succ k ih => rw [fst1_succ _ _ _ _ _ _ _ _ _ _ _ _ _ k (by omega) (ih (by omega))]

theorem fst1_read (f : BufTy.Contents (Elt F) arg4.view.ty) (k : ℕ) (hk : k ≤ 511) (y : S511x52x128.Idx) (hy : (y 0).val < k) :
    View.read (Elt F) arg4.view (arg4.view.writes (Elt F) f (fst1 c arg0 harg0 arg1 harg1 arg2 harg2 arg3 harg3 arg4 harg4 x0 x2 k).2) y
      = (kst x0 x2 ((y 0).val + 1)).2 (ix2 (y 1) (y 2)) := by
  induction k with
  | zero => omega
  | succ k ih =>
    rw [fst1_succ _ _ _ _ _ _ _ _ _ _ _ _ _ k (by omega) (fst1_val _ _ _ _ _ _ _ _ _ _ _ _ _ k (by omega))]
    by_cases h : (y 0).val = k
    · subst h
      refine (View.read_writes_cons_unit_of_mem arg4.view f _ _ _ y (ix3 (0 : Fin 1) (y 1) (y 2)) (k0_off2_eq _) ?_).trans ?_
      · intro a; fin_cases a
        · rfl
        · show (y 1).val = 0 + (y 1).val; omega
        · show (y 2).val = 0 + (y 2).val; omega
      · rw [shapeCast_self]
        exact shapeCast_ab_1ab_apply _ _ _ _ _
    · refine (View.read_writes_cons_unit_of_not_mem arg4.view f _ _ _ y (k0_off2_eq _) (0 : Fin 3) (.inl ?_)).trans (ih (by omega) (by omega))
      show (y 0).val < k; omega

/-- The backward loop's state before trip `k`, from the kernel's own initial value. -/
abbrev fst2 (X4 : BufTy.Contents (Elt F) arg4.view.ty) (k : ℕ) := st_k0_t2 (F := F) Variants.none c none arg0 harg0 arg1 harg1 arg2 harg2 arg3 harg3 arg4 harg4 X4 (k0_pay2 (kst x0 x2 511).1 (colStop x1)) k

variable (X4 : BufTy.Contents (Elt F) arg4.view.ty)
  (hX4 : ∀ y : S511x52x128.Idx, View.read (Elt F) arg4.view X4 y = (kst x0 x2 ((y 0).val + 1)).2 (ix2 (y 1) (y 2)))

include hX4 in
theorem fst2_succ (k : ℕ) (hk : k < 511) (hv : (fst2 c arg0 harg0 arg1 harg1 arg2 harg2 arg3 harg3 arg4 harg4 x0 x1 x2 X4 k).1 = kptr x0 x1 x2 k) :
    fst2 c arg0 harg0 arg1 harg1 arg2 harg2 arg3 harg3 arg4 harg4 x0 x1 x2 X4 (k + 1)
      = (kptr x0 x1 x2 (k + 1),
          ⟨Rect.unit (s := S512x1x128) (k0_off4 ⟨k, trips2 ▸ hk⟩) S1x1x128.size (k0_off4_inb _),
            shapeCast S1x1x128 (kptr x0 x1 x2 (k + 1)) shapeCasts_S1x128_S1x1x128⟩
          :: (fst2 c arg0 harg0 arg1 harg1 arg2 harg2 arg3 harg3 arg4 harg4 x0 x1 x2 X4 k).2) := by
  have h := st_k0_t2_succ (F := F) Variants.none c none arg0 harg0 arg1 harg1 arg2 harg2 arg3 harg3 arg4 harg4 X4 (k0_pay2 (kst x0 x2 511).1 (colStop x1)) ⟨k, trips2 ▸ hk⟩
  have hr : View.readAt (Elt F) arg4.view (Rect.unit (s := S511x52x128) (k0_off3 ⟨k, trips2 ▸ hk⟩) S1x52x128.size (k0_off3_inb _)).toLoadRect X4
      = fun j => (kst x0 x2 (511 - k)).2 (ix2 (j 1) (j 2)) := by
    refine (read_bps arg4 X4 (fun n => (kst x0 x2 n).2) (510 - k) (by omega) _ (k0_off3_eq _) hX4).trans ?_
    rw [show 510 - k + 1 = 511 - k by omega]
  refine h.trans ?_
  rw [tripR2, tripL2, hr]
  refine Prod.ext ?_ ?_
  · show k0_pay4 (F := F) (fst2 c arg0 harg0 arg1 harg1 arg2 harg2 arg3 harg3 arg4 harg4 x0 x1 x2 X4 k).1 _ = _
    rw [hv]; rfl
  · show ⟨_, _⟩ :: (fst2 c arg0 harg0 arg1 harg1 arg2 harg2 arg3 harg3 arg4 harg4 x0 x1 x2 X4 k).2 = _ :: _
    have e : k0_pay4 (F := F) (fst2 c arg0 harg0 arg1 harg1 arg2 harg2 arg3 harg3 arg4 harg4 x0 x1 x2 X4 k).1 (fun j => (kst x0 x2 (511 - k)).2 (ix2 (j 1) (j 2))) = kptr x0 x1 x2 (k + 1) := by rw [hv]; rfl
    rw [← e]; rfl

include hX4 in
theorem fst2_val (k : ℕ) (hk : k ≤ 511) : (fst2 c arg0 harg0 arg1 harg1 arg2 harg2 arg3 harg3 arg4 harg4 x0 x1 x2 X4 k).1 = kptr x0 x1 x2 k := by
  induction k with
  | zero => rfl
  | succ k ih => rw [fst2_succ _ _ _ _ _ _ _ _ _ _ _ _ _ _ _ hX4 k (by omega) (ih (by omega))]

include hX4 in
theorem fst2_read (f : BufTy.Contents (Elt F) arg3.view.ty) (k : ℕ) (hk : k ≤ 511) (y : S512x1x128.Idx) (hy : 511 - k ≤ (y 0).val)
    (inb : ∀ a, (![511, 0, 0] : Fin 3 → ℕ) a + S1x1x128.size a ≤ S512x1x128.size a) :
    View.read (Elt F) arg3.view (arg3.view.writes (Elt F) f ((fst2 c arg0 harg0 arg1 harg1 arg2 harg2 arg3 harg3 arg4 harg4 x0 x1 x2 X4 k).2
        ++ [⟨Rect.unit (s := S512x1x128) ![511, 0, 0] S1x1x128.size inb, k0_pay3 (kst x0 x2 511).1 (colStop x1)⟩])) y
      = outV x0 x1 x2 y := by
  have hlt : (y 0).val < 512 := (y 0).isLt
  have hy1 : (y 1).val < 1 := (y 1).isLt
  induction k with
  | zero =>
    have h0 : (y 0).val = 511 := by omega
    refine (View.read_writes_cons_unit_of_mem arg3.view f _ _ _ y (ix3 (0 : Fin 1) (0 : Fin 1) (y 2)) rfl ?_).trans ?_
    · intro a; fin_cases a
      · exact h0
      · show (y 1).val = 0 + 0; omega
      · show (y 2).val = 0 + (y 2).val; omega
    · unfold k0_pay3
      refine (shapeCast_ab_1ab_apply _ _ _ _ _).trans ?_
      unfold outV; rw [h0]; rfl
  | succ k ih =>
    rw [fst2_succ _ _ _ _ _ _ _ _ _ _ _ _ _ _ _ hX4 k (by omega) (fst2_val _ _ _ _ _ _ _ _ _ _ _ _ _ _ _ hX4 k (by omega))]
    rw [List.cons_append]
    by_cases h : (y 0).val = 510 - k
    · refine (View.read_writes_cons_unit_of_mem arg3.view f _ _ _ y (ix3 (0 : Fin 1) (0 : Fin 1) (y 2)) (k0_off4_eq _) ?_).trans ?_
      · intro a; fin_cases a
        · exact h
        · show (y 1).val = 0 + 0; omega
        · show (y 2).val = 0 + (y 2).val; omega
      · refine (shapeCast_ab_1ab_apply _ _ _ _ _).trans ?_
        unfold outV; rw [show 511 - (y 0).val = k + 1 by omega]
    · refine (View.read_writes_cons_unit_of_not_mem arg3.view f _ _ _ y (k0_off4_eq _) (0 : Fin 3) (.inr ?_)).trans (ih (by omega) (by omega))
      show 510 - k + 1 ≤ (y 0).val; omega

end Loops

end Cert.KernelIdeal.Val
-- ==== Proof.KernelRun.lean ====
module

public import proofs.«01_k».proof.Proof.KernelMath
public import Idealize.ShloMosaic.Lib.Claim

/-! The kernel's run: one grid point, its body leaving the decoded array `outV` of the three operands
    it fetches; so the launch ends with the result array at that value and the arguments unchanged. -/

@[expose] public section

set_option maxRecDepth 16384

noncomputable section

namespace Cert.KernelIdeal.Val

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Close

variable (c : Dev nD) (arg0 : Memref sig .tc .vmem S512x52x128 .f32) (harg0 : arg0.IsWhole) (arg1 : Memref sig .tc .vmem S52x52 .f32) (harg1 : arg1.IsWhole) (arg2 : Memref sig .tc .vmem S52x52x128 .f32) (harg2 : arg2.IsWhole) (arg3 : Memref sig .tc .vmem S512x1x128 .i32) (harg3 : arg3.IsWhole) (arg4 : Memref sig .tc .vmem S511x52x128 .i32) (harg4 : arg4.IsWhole)
variable (x0 : Vec F S512x52x128 .f32) (x1 : Vec F S52x52 .f32) (x2 : Vec F S52x52x128 .f32)

/-- What the two loops and the last pointer's store leave in the output buffer, written out as the
    body's run leaves it, is the decoded array. -/
theorem body_value (f3 : BufTy.Contents (Elt F) arg3.view.ty) (f4 : BufTy.Contents (Elt F) arg4.view.ty) :
    let L0 := View.readAt (Elt F) arg0.view (Rect.unit (s := S512x52x128) ![0, 0, 0] S1x52x128.size inb_S512x52x128_S1x52x128_0_0_0).toLoadRect (harg0.unread x0)
    let L2 := View.readAt (Elt F) arg2.view (Rect.unit (s := S52x52x128) ![50, 0, 0] S1x52x128.size inb_S52x52x128_S1x52x128_50_0_0).toLoadRect (harg2.unread x2)
    let T1 := st_k0_t1 Variants.none c none arg0 harg0 arg1 harg1 arg2 harg2 arg3 harg3 arg4 harg4 (harg0.unread x0) (harg2.unread x2) (k0_pay1 L0 L2) (Scf.trips k0_t1_loop.lb k0_t1_loop.ub k0_t1_loop.st)
    let R1 := View.readAt (Elt F) arg1.view (Rect.unit (s := S52x52) ![0, 51] S52x1.size inb_S52x52_S52x1_0_51).toLoadRect (harg1.unread x1)
    View.read (Elt F) arg3.view (arg3.view.writes (Elt F) f3 ((st_k0_t2 (F := F) Variants.none c none arg0 harg0 arg1 harg1 arg2 harg2 arg3 harg3 arg4 harg4 (arg4.view.writes (Elt F) f4 T1.2) (k0_pay2 T1.1 R1) (Scf.trips k0_t2_loop.lb k0_t2_loop.ub k0_t2_loop.st)).2
        ++ [⟨Rect.unit (s := S512x1x128) ![511, 0, 0] S1x1x128.size inb_S512x1x128_S1x1x128_511_0_0, k0_pay3 T1.1 R1⟩])) = outV x0 x1 x2 := by
  intro L0 L2 T1 R1
  have h0 : L0 = rowF x0 0 := read_rowF harg0 x0 0 _ rfl
  have h2 : L2 = rowT x2 50 := read_rowT harg2 x2 50 _
  have hR : R1 = colStop x1 := read_col harg1 x1 _
  have hT : T1 = fst1 c arg0 harg0 arg1 harg1 arg2 harg2 arg3 harg3 arg4 harg4 x0 x2 511 := by
    show st_k0_t1 Variants.none c none arg0 harg0 arg1 harg1 arg2 harg2 arg3 harg3 arg4 harg4 (harg0.unread x0) (harg2.unread x2) (k0_pay1 L0 L2) k0_t1_loop.trips = _
    rw [h0, h2, trips1]
  have hv : T1.1 = (kst x0 x2 511).1 := by rw [hT]; exact fst1_val _ _ _ _ _ _ _ _ _ _ _ _ _ 511 le_rfl
  rw [hv, hR]
  have h4 : ∀ y : S511x52x128.Idx, View.read (Elt F) arg4.view (arg4.view.writes (Elt F) f4 T1.2) y = (kst x0 x2 ((y 0).val + 1)).2 (ix2 (y 1) (y 2)) := fun y => by
    rw [hT]; exact fst1_read _ _ _ _ _ _ _ _ _ _ _ _ _ f4 511 le_rfl y (y 0).isLt
  have hl : Scf.trips k0_t2_loop.lb k0_t2_loop.ub k0_t2_loop.st = 511 := trips2
  rw [hl]
  funext y
  exact fst2_read c arg0 harg0 arg1 harg1 arg2 harg2 arg3 harg3 arg4 harg4 x0 x1 x2 _ h4 f3 511 le_rfl y (by omega) _

end Close

set_option maxHeartbeats 1000000 in
/-- The body, called on whole buffers, leaves the inputs as they were and the output at `outV`. -/
theorem body_run (c : Dev nD) (arg0 : Memref sig .tc .vmem S512x52x128 .f32) (harg0 : arg0.IsWhole) (arg1 : Memref sig .tc .vmem S52x52 .f32) (harg1 : arg1.IsWhole) (arg2 : Memref sig .tc .vmem S52x52x128 .f32) (harg2 : arg2.IsWhole) (arg3 : Memref sig .tc .vmem S512x1x128 .i32) (harg3 : arg3.IsWhole) (arg4 : Memref sig .tc .vmem S511x52x128 .i32) (harg4 : arg4.IsWhole)
    (x0 : Vec F S512x52x128 .f32) (x1 : Vec F S52x52 .f32) (x2 : Vec F S52x52x128 .f32) (E : Set ℕ) (K : PUnit → sProp 𝕄) :
        iprop(owns (c : Thread nD τ) arg0 fullShare x0 ∗ owns (c : Thread nD τ) arg1 fullShare x1 ∗ owns (c : Thread nD τ) arg2 fullShare x2 ∗ (∃ d, owns (c : Thread nD τ) arg3 fullShare d) ∗ (∃ d, owns (c : Thread nD τ) arg4 fullShare d)
            ∗ (iprop(owns (c : Thread nD τ) arg0 fullShare x0 ∗ owns (c : Thread nD τ) arg1 fullShare x1 ∗ owns (c : Thread nD τ) arg2 fullShare x2 ∗ owns (c : Thread nD τ) arg3 fullShare (outV x0 x1 x2) ∗ (∃ d, owns (c : Thread nD τ) arg4 fullShare d)) -∗ K ⟨⟩))
          ⊢ wp frame (wpE (defs₀ (F := F)) Variants.none c none) E (cc0__crf_kernel arg0 harg0 arg1 harg1 arg2 harg2 arg3 harg3 arg4 harg4) K := by
    simp only [cc0__crf_kernel_eq_skeleton]; unfold cc0__crf_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg0.eq_unread hf0; obtain rfl := harg1.eq_unread hf1; obtain rfl := harg2.eq_unread hf2
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; swap; · iexact H3
      ipureintro
      exact body_value _ _ _ _ _ _ _ _ _ _ _ x0 x1 x2 _ _
    iexists _, _; isplitr; swap; · iexact HS0
    ipureintro; rfl

variable (m : (ℓ : Loc nD τ sig) → Buf (Elt F) ℓ) (ρ : Dev nD → PrngReg)

/-- The launch's proof data: inputs left in place, the output at `outV` of the inputs' blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outV (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outV (iblk m c 0 t) (iblk m c 1 t) (iblk m c 2 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, PhiA0_eq]
  iintro ⟨⟨HS0, Hg⟩, Ho, ⟨%d0, H0⟩, ⟨%d1, H1⟩, ⟨%d2, H2⟩, ⟨%d3, H3⟩⟩
  iapply (body_run c _ _ _ _ _ _ _ _ _ _ (iblk m c 0 t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  iintro ⟨H0, H1, H2, H3, HS0⟩
  isplitl [HS0 Hg]
  · isplitl [HS0]
    · iexact HS0
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: every array at what the proof data compute, every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_post : θ_run defs (onTc (τ := τ) (main (F := F))) (s₀ m ρ) (Pipeline.FramePost cfgs (dats m) 0 (V m)) :=
  (θ_run defs _ _).mono (fun _ h => h.1) (run_quiescent m ρ)

/-- The frame: the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_post m ρ)) ((θ_run defs _ _).mono (fun _ h => h.2) (run_quiescent m ρ))

/-! ### The launch's value -/

/-- A block of each window is its whole array. -/
theorem blk_0 (c : Dev nD) (t : Fin cfg0.N) : iblk m c 0 t = V m c main_arg0 := by
  have hz : (fun a => (win0_0.index t) a * main_arg0.ty.shape.size a) = fun _ => 0 :=
    funext fun a => by fin_cases a <;> rfl
  exact Memref.read_access_unit_zero (Elt F) main_arg0 hz _ _

theorem blk_1 (c : Dev nD) (t : Fin cfg0.N) : iblk m c 1 t = V m c main_arg2 := by
  have hz : (fun a => (win0_1.index t) a * main_arg2.ty.shape.size a) = fun _ => 0 :=
    funext fun a => by fin_cases a <;> rfl
  exact Memref.read_access_unit_zero (Elt F) main_arg2 hz _ _

theorem blk_2 (c : Dev nD) (t : Fin cfg0.N) : iblk m c 2 t = V m c main_v1 := by
  have hz : (fun a => (win0_2.index t) a * main_v1.ty.shape.size a) = fun _ => 0 :=
    funext fun a => by fin_cases a <;> rfl
  exact Memref.read_access_unit_zero (Elt F) main_v1 hz _ _

/-- The result array after the launch. -/
theorem final_3 (c : Dev nD) :
    (dats m 0 c).arrAt (3 : Fin 4) (Fin.last cfg0.N).val = outV (V m c main_arg0) (V m c main_arg2) (V m c main_v1) := by
  have hz : (fun a => (win0_3.index (0 : Fin 1)) a * main_v2.ty.shape.size a) = fun _ => 0 :=
    funext fun a => by fin_cases a <;> rfl
  have hr := fun f => Memref.read_access_unit_zero (Elt F) main_v2 hz (fun a => by fin_cases a <;> decide) f
  refine (hr _).symm.trans ?_
  rw [show (Fin.last cfg0.N).val = ((0 : Fin 1) : Fin cfg0.N).val + 1 from rfl, (dats m 0 c).arrAt_succ (3 : Fin 4) (0 : Fin 1)]
  rw [show (cfg0.win (3 : Fin 4)).flush (0 : Fin 1) = true from by decide, if_pos rfl]
  refine (View.read_write_univ _ _).trans ?_
  rw [← blk_0 m c (0 : Fin 1), ← blk_1 m c (0 : Fin 1), ← blk_2 m c (0 : Fin 1)]
  exact after_3 m c _

/-- The broadcast transitions the launch fetches. -/
theorem V_main_v1 (c : Dev nD) : V m c main_v1
    = (broadcastInDim S52x52x128 ![0, 1, 2] bcast_S52x52x1_S52x52x128_0_1_2 (broadcastInDim S52x52x1 ![0, 1] bcast_S52x52_S52x52x1_0_1 (m ((c : Thread nD τ).loc main_arg2))) : Vec F S52x52x128 .f32) := by
  show StableHlo.after hostOps0 (fun b => m (c, b)) main_v1 = _
  simp only [hostOps0]
  after_results

/-- The launch leaves `outV` of the arguments in the result array, and the arguments unchanged. -/
theorem run_value : θ_run defs (onTc (τ := τ) (main (F := F))) ⟨m, fun _ => 0, ρ⟩ (fun r => ∀ c : Dev nD,
      r.2.mem ((c.tc : Thread nD τ).loc main_v2) = outV (m ((c : Thread nD τ).loc main_arg0)) (m ((c : Thread nD τ).loc main_arg2)) (V m c main_v1)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) := by
  refine (θ_run defs _ _).mono (fun r h c => ⟨?_, h.1 c⟩) (θ_run_and (frame_of m ρ (dats m) (A_eq m) (run_post m ρ)) (run_post m ρ))
  refine ((h.2 c).1 3).trans ((final_3 m c).trans ?_)
  rw [V_main_arg0, V_main_arg2]

end Cert.KernelIdeal.Val
-- ==== Proof.KernelBits.lean ====
/-
  The kernel's frame. The printed kernel and its idealization are one program, but for the constant that the idealization names: where the name is
  read as the constant's own word, the two agree, so the kernel has the idealization's frame.
-/
module

public import Idealize.ShloMosaic.PureOps.BitExact
public import proofs.«01_k».proof.Kernel
public import proofs.«01_k».proof.Proof.Gen.Kernel
public import proofs.«01_k».proof.Proof.KernelRun

@[expose] public section

set_option maxRecDepth 16384

noncomputable section

namespace Cert.KernelBits

open Idealize.ShloMosaic Idealize.ShloMosaic.TcCoe Idealize.SL.Sem

/-- Over words a named constant is the constant's word. -/
@[reducible] def word : Named Bits := ⟨fun _ _ {φ} b => Scalar.ofBits φ b⟩

attribute [local instance] word Cert.Kernel.Gen.facts Cert.KernelIdeal.Gen.facts

/-- The kernels' bodies are the same program, -/
theorem body_eq : Cert.Kernel.cc0__crf_kernel (F := Bits) = Cert.KernelIdeal.cc0__crf_kernel (F := Bits) := rfl

/-- and so are the tables of the kernels' bodies, -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    show Cert.Kernel.cc0__crf_kernel (F := Bits) _ _ _ _ _ _ _ _ _ _ = Cert.KernelIdeal.cc0__crf_kernel (F := Bits) _ _ _ _ _ _ _ _ _ _
    rw [body_eq]
  | ⟨_ + 1, h⟩, _ => exact absurd h (Nat.not_lt.2 (Nat.le_add_left _ _))

/-- the tables with the regions and pipelines, -/
theorem defs_eq : Cert.Kernel.defs (F := Bits) = Cert.KernelIdeal.defs (F := Bits) := congrArg (Pipeline.defs Cert.KernelIdeal.pcfgs) defs₀_eq

/-- and the host programs. -/
theorem main_eq : Cert.Kernel.main (F := Bits) = Cert.KernelIdeal.main (F := Bits) := rfl

/-- The kernel runs, its arguments are unchanged, and every counter ends at zero. -/
theorem frame (m : (ℓ : Loc Cert.Kernel.nD Cert.Kernel.τ Cert.Kernel.sig) → Buf (Elt Bits) ℓ) (ρ : Dev Cert.Kernel.nD → PrngReg) :
    θ_run (Cert.Kernel.defs (F := Bits)) (onTc (τ := Cert.Kernel.τ) (Cert.Kernel.main (F := Bits))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) := by
  rw [defs_eq, main_eq]
  exact Cert.KernelIdeal.Val.frame (F := Bits) m ρ

end Cert.KernelBits

end
-- ==== Proof.RefOps.lean ====
/-
  The host operations of the reference program, in the order of the printed program: the stretches before the
  forward loop, of its body, between the loops, of the backward loop's body and after it. A called function's
  operations are a stretch of their own, over the buffers of that call.
-/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead

@[expose] public section

noncomputable section

namespace Cert.ReferenceIdeal.Ops

open Cert.ReferenceIdeal Cert.ReferenceIdeal.Gen
open Idealize.ShloMosaic Idealize.ShloMosaic.TcCoe

variable {F : FTy → Type} [FloatOps F]

/-! ## Operations before the forward loop -/

abbrev pre0 : List (HloOp τ sig (Elt F)) :=
  [ StableHlo.unary main_arg0 main_v0 ((transpose S128x512x52 [2, 0, 1] · transposes_S512x52x128_S128x512x52_2_0_1) : (⟨S512x52x128, .f32⟩ : BufTy).Contents (Elt F) → (⟨S128x512x52, .f32⟩ : BufTy).Contents (Elt F)),
    StableHlo.unary main_v0 main_v1 ((transpose S512x128x52 [1, 0, 2] · transposes_S128x512x52_S512x128x52_1_0_2) : (⟨S128x512x52, .f32⟩ : BufTy).Contents (Elt F) → (⟨S512x128x52, .f32⟩ : BufTy).Contents (Elt F)),
    StableHlo.unary main_arg1 main_v2 ((transpose S512x128 [1, 0] · transposes_S128x512_S512x128_1_0) : (⟨S128x512, .f32⟩ : BufTy).Contents (Elt F) → (⟨S512x128, .f32⟩ : BufTy).Contents (Elt F)),
    StableHlo.unary main_v1 main_v3 ((extractStridedSlice S1x128x52 ![0, 0, 0] · slices_S512x128x52_S1x128x52_0_0_0) : (⟨S512x128x52, .f32⟩ : BufTy).Contents (Elt F) → (⟨S1x128x52, .f32⟩ : BufTy).Contents (Elt F)),
    StableHlo.reshape main_v3 main_v4 (rfl : (.f32 : EltTy) = .f32) shapeCasts_S1x128x52_S128x52,
    StableHlo.unary main_arg2 main_v5 ((extractStridedSlice S1x52 ![50, 0] · slices_S52x52_S1x52_50_0) : (⟨S52x52, .f32⟩ : BufTy).Contents (Elt F) → (⟨S1x52, .f32⟩ : BufTy).Contents (Elt F)),
    StableHlo.reshape main_v5 main_v6 (rfl : (.f32 : EltTy) = .f32) shapeCasts_S1x52_S52,
    StableHlo.unary main_v6 main_v7 (broadcastInDim S1x52 ![1] bcast_S52_S1x52_1 : (⟨S52, .f32⟩ : BufTy).Contents (Elt F) → (⟨S1x52, .f32⟩ : BufTy).Contents (Elt F)),
    StableHlo.unary main_v7 main_v8 (broadcastInDim S128x52 ![0, 1] bcast_S1x52_S128x52_0_1 : (⟨S1x52, .f32⟩ : BufTy).Contents (Elt F) → (⟨S128x52, .f32⟩ : BufTy).Contents (Elt F)),
    StableHlo.binary main_v4 main_v8 main_v9 (addf : (⟨S128x52, .f32⟩ : BufTy).Contents (Elt F) → (⟨S128x52, .f32⟩ : BufTy).Contents (Elt F) → (⟨S128x52, .f32⟩ : BufTy).Contents (Elt F)),
    StableHlo.unary main_v1 main_v10 ((extractStridedSlice S511x128x52 ![1, 0, 0] · slices_S512x128x52_S511x128x52_1_0_0) : (⟨S512x128x52, .f32⟩ : BufTy).Contents (Elt F) → (⟨S511x128x52, .f32⟩ : BufTy).Contents (Elt F)),
    StableHlo.unary main_v2 main_v11 ((extractStridedSlice S511x128 ![1, 0] · slices_S512x128_S511x128_1_0) : (⟨S512x128, .f32⟩ : BufTy).Contents (Elt F) → (⟨S511x128, .f32⟩ : BufTy).Contents (Elt F)),
    StableHlo.nullary main_cst (constant S_ .f32 0x00000000#32),
    StableHlo.unary main_cst main_v12 (broadcastInDim S511x128x52 ![] bcast_S_S511x128x52 : (⟨S_, .f32⟩ : BufTy).Contents (Elt F) → (⟨S511x128x52, .f32⟩ : BufTy).Contents (Elt F)),
    StableHlo.nullary main_c (constantI S_ 32 0#32),
    StableHlo.unary main_c main_v13 (broadcastInDim S511x128x52 ![] bcast_S_S511x128x52 : (⟨S_, .i32⟩ : BufTy).Contents (Elt F) → (⟨S511x128x52, .i32⟩ : BufTy).Contents (Elt F)),
    StableHlo.nullary main_c_0 (constantI S_ 32 0#32),
    StableHlo.unary main_v10 main_v14_0 id,
    StableHlo.unary main_v11 main_v14_1 id,
    StableHlo.unary main_arg2 main_v14_2 id,
    StableHlo.unary main_c_0 main_v14_3 id,
    StableHlo.unary main_v9 main_v14_4 id,
    StableHlo.unary main_v12 main_v14_5 id,
    StableHlo.unary main_v13 main_v14_6 id ]

/-- What `pre0` writes, in order. -/
abbrev pre0W : List (Ref sig .tc) := [main_v0, main_v1, main_v2, main_v3, main_v4, main_v5, main_v6, main_v7, main_v8, main_v9, main_v10, main_v11, main_cst, main_v12, main_c, main_v13, main_c_0, main_v14_0, main_v14_1, main_v14_2, main_v14_3, main_v14_4, main_v14_5, main_v14_6]

/-! ## Operations of the forward loop's body -/

abbrev fwd0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v14_0 : StableHlo.TRef sig ⟨S511x128x52, .f32⟩) ![(.of main_v14_3 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x128x52, .f32⟩) (fun x i => Host.dynamicSlice S1x128x52 x (fun k => (i k (Shape.Idx.first h_S_)).toInt) sliceFits_S511x128x52_S1x128x52),
    StableHlo.TRef.reshape (.of main_while0b_call0_v0 : StableHlo.TRef sig ⟨S1x128x52, .f32⟩) (.of main_while0b_v61 : StableHlo.TRef sig ⟨S128x52, .f32⟩) (rfl : (.f32 : EltTy) = .f32) shapeCasts_S1x128x52_S128x52 ]

/-- What `fwd0` writes, in order. -/
abbrev fwd0W : List (Ref sig .tc) := [main_while0b_call0_c, main_while0b_call0_c_0, main_while0b_call0_v0, main_while0b_v61]

abbrev fwd1 : List (HloOp τ sig (Elt F)) :=
  [ StableHlo.TRef.nullary (.of main_while0b_call1_c : StableHlo.TRef sig ⟨S_, .i32⟩) (constantI S_ 32 0#32),
    StableHlo.TRef.unaryIndexed (.of main_v14_1 : StableHlo.TRef sig ⟨S511x128, .f32⟩) ![(.of main_v14_3 : StableHlo.TRef sig ⟨S_, .i32⟩), (.of main_while0b_call1_c : StableHlo.TRef sig ⟨S_, .i32⟩)] (.of main_while0b_call1_v0 : StableHlo.TRef sig ⟨S1x128, .f32⟩) (fun x i => Host.dynamicSlice S1x128 x (fun k => (i k (Shape.Idx.first h_S_)).toInt) sliceFits_S511x128_S1x128),
    StableHlo.TRef.reshape (.of main_while0b_call1_v0 : StableHlo.TRef sig ⟨S1x128, .f32⟩) (.of main_while0b_v62 : StableHlo.TRef sig ⟨S128, .f32⟩) (rfl : (.f32 : EltTy) = .f32) shapeCasts_S1x128_S128 ]

/-- What `fwd1` writes, in order. -/
abbrev fwd1W : List (Ref sig .tc) := [main_while0b_call1_c, main_while0b_call1_v0, main_while0b_v62]

abbrev fwd2 : List (HloOp τ sig (Elt F)) :=
  [ StableHlo.unary main_while0b_v61 main_while0b_v63 (broadcastInDim S128x1x52 ![0, 2] bcast_S128x52_S128x1x52_0_2 : (⟨S128x52, .f32⟩ : BufTy).Contents (Elt F) → (⟨S128x1x52, .f32⟩ : BufTy).Contents (Elt F)),
    StableHlo.unary main_v14_2 main_while0b_v64 (broadcastInDim S1x52x52 ![1, 2] bcast_S52x52_S1x52x52_1_2 : (⟨S52x52, .f32⟩ : BufTy).Contents (Elt F) → (⟨S1x52x52, .f32⟩ : BufTy).Contents (Elt F)),
    StableHlo.unary main_while0b_v63 main_while0b_v65 (broadcastInDim S128x52x52 ![0, 1, 2] bcast_S128x1x52_S128x52x52_0_1_2 : (⟨S128x1x52, .f32⟩ : BufTy).Contents (Elt F) → (⟨S128x52x52, .f32⟩ : BufTy).Contents (Elt F)),
    StableHlo.unary main_while0b_v64 main_while0b_v66 (broadcastInDim S128x52x52 ![0, 1, 2] bcast_S1x52x52_S128x52x52_0_1_2 : (⟨S1x52x52, .f32⟩ : BufTy).Contents (Elt F) → (⟨S128x52x52, .f32⟩ : BufTy).Contents (Elt F)),
    StableHlo.binary main_while0b_v65 main_while0b_v66 main_while0b_v67 (addf : (⟨S128x52x52, .f32⟩ : BufTy).Contents (Elt F) → (⟨S128x52x52, .f32⟩ : BufTy).Contents (Elt F) → (⟨S128x52x52, .f32⟩ : BufTy).Contents (Elt F)),
    StableHlo.unary main_v14_4 main_while0b_v68 (broadcastInDim S128x52x1 ![0, 1] bcast_S128x52_S128x52x1_0_1 : (⟨S128x52, .f32⟩ : BufTy).Contents (Elt F) → (⟨S128x52x1, .f32⟩ : BufTy).Contents (Elt F)),
    StableHlo.unary main_while0b_v68 main_while0b_v69 (broadcastInDim S128x52x52 ![0, 1, 2] bcast_S128x52x1_S128x52x52_0_1_2 : (⟨S128x52x1, .f32⟩ : BufTy).Contents (Elt F) → (⟨S128x52x52, .f32⟩ : BufTy).Contents (Elt F)),
    StableHlo.binary main_while0b_v67 main_while0b_v69 main_while0b_v70 (addf : (⟨S128x52x52, .f32⟩ : BufTy).Contents (Elt F) → (⟨S128x52x52, .f32⟩ : BufTy).Contents (Elt F) → (⟨S128x52x52, .f32⟩ : BufTy).Contents (Elt F)),
    StableHlo.nullary main_while0b_cst_16 (constant S_ .f32 0xFF800000#32),
    StableHlo.binary main_while0b_v70 main_while0b_cst_16 main_while0b_v71 ((fun x v => Host.reduce FloatOps.maximumf x v reducesTo_S128x52x52_S128x52_d1 h_S_) : (⟨S128x52x52, .f32⟩ : BufTy).Contents (Elt F) → (⟨S_, .f32⟩ : BufTy).Contents (Elt F) → (⟨S128x52, .f32⟩ : BufTy).Contents (Elt F)) ]

/-- What `fwd2` writes, in order. -/
abbrev fwd2W : List (Ref sig .tc) := [main_while0b_v63, main_while0b_v64, main_while0b_v65, main_while0b_v66, main_while0b_v67, main_while0b_v68, main_while0b_v69, main_while0b_v70, main_while0b_cst_16, main_while0b_v71]

abbrev fwd3 : List (HloOp τ sig (Elt F)) :=
  [ StableHlo.TRef.nullary (.of main_while0b_call2_v0 : StableHlo.TRef sig ⟨S128x52x52, .i32⟩) (iotaInDim S128x52x52 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_while0b_v70 : StableHlo.TRef sig ⟨S128x52x52, .f32⟩) (.of main_while0b_call2_v0 : StableHlo.TRef sig ⟨S128x52x52, .i32⟩) (.of main_while0b_call2_cst : StableHlo.TRef sig ⟨S_, .f32⟩) (.of main_while0b_call2_c : StableHlo.TRef sig ⟨S_, .i32⟩) (.of main_while0b_call2_v1_0 : StableHlo.TRef sig ⟨S128x52, .f32⟩) (fun x y u v j => (Host.argReduce reducer_argmax_f32_i32 x y u v reducesTo_S128x52x52_S128x52_d1 h_S_ j).1),
    StableHlo.TRef.quaternary (.of main_while0b_v70 : StableHlo.TRef sig ⟨S128x52x52, .f32⟩) (.of main_while0b_call2_v0 : StableHlo.TRef sig ⟨S128x52x52, .i32⟩) (.of main_while0b_call2_cst : StableHlo.TRef sig ⟨S_, .f32⟩) (.of main_while0b_call2_c : StableHlo.TRef sig ⟨S_, .i32⟩) (.of main_while0b_v72 : StableHlo.TRef sig ⟨S128x52, .i32⟩) (fun x y u v j => (Host.argReduce reducer_argmax_f32_i32 x y u v reducesTo_S128x52x52_S128x52_d1 h_S_ j).2) ]

/-- What `fwd3` writes, in order. -/
abbrev fwd3W : List (Ref sig .tc) := [main_while0b_call2_v0, main_while0b_call2_cst, main_while0b_call2_c, main_while0b_call2_v1_0, main_while0b_v72]

abbrev fwd4 : List (HloOp τ sig (Elt F)) :=
  [ StableHlo.unary main_while0b_v62 main_while0b_v73 (broadcastInDim S128x1 ![0] bcast_S128_S128x1_0 : (⟨S128, .f32⟩ : BufTy).Contents (Elt F) → (⟨S128x1, .f32⟩ : BufTy).Contents (Elt F)),
    StableHlo.nullary main_while0b_cst_17 (constant S_ .f32 0x00000000#32),
    StableHlo.unary main_while0b_cst_17 main_while0b_v74 (broadcastInDim S128x1 ![] bcast_S_S128x1 : (⟨S_, .f32⟩ : BufTy).Contents (Elt F) → (⟨S128x1, .f32⟩ : BufTy).Contents (Elt F)),
    StableHlo.binary main_while0b_v73 main_while0b_v74 main_while0b_v75 (cmpf .ogt : (⟨S128x1, .f32⟩ : BufTy).Contents (Elt F) → (⟨S128x1, .f32⟩ : BufTy).Contents (Elt F) → (⟨S128x1, .i1⟩ : BufTy).Contents (Elt F)),
    StableHlo.nullary main_while0b_c_18 (constantI S_ 32 0#32) ]

/-- What `fwd4` writes, in order. -/
abbrev fwd4W : List (Ref sig .tc) := [main_while0b_v73, main_while0b_cst_17, main_while0b_v74, main_while0b_v75, main_while0b_c_18]

abbrev fwd5 : List (HloOp τ sig (Elt F)) :=
  [ StableHlo.TRef.unary (.of main_while0b_c_18 : StableHlo.TRef sig ⟨S_, .i32⟩) (.of main_while0b_call3_v0 : StableHlo.TRef sig ⟨S_, .i32⟩) id,
    StableHlo.TRef.unary (.of main_while0b_v75 : StableHlo.TRef sig ⟨S128x1, .i1⟩) (.of main_while0b_call3_v1 : StableHlo.TRef sig ⟨S128x52, .i1⟩) (broadcastInDim S128x52 ![0, 1] bcast_S128x1_S128x52_0_1),
    StableHlo.TRef.unary (.of main_while0b_call3_v0 : StableHlo.TRef sig ⟨S_, .i32⟩) (.of main_while0b_call3_v2 : StableHlo.TRef sig ⟨S128x52, .i32⟩) (broadcastInDim S128x52 ![] bcast_S_S128x52),
    StableHlo.TRef.ternary (.of main_while0b_call3_v1 : StableHlo.TRef sig ⟨S128x52, .i1⟩) (.of main_while0b_v72 : StableHlo.TRef sig ⟨S128x52, .i32⟩) (.of main_while0b_call3_v2 : StableHlo.TRef sig ⟨S128x52, .i32⟩) (.of main_while0b_v76 : StableHlo.TRef sig ⟨S128x52, .i32⟩) select ]

/-- What `fwd5` writes, in order. -/
abbrev fwd5W : List (Ref sig .tc) := [main_while0b_call3_v0, main_while0b_call3_v1, main_while0b_call3_v2, main_while0b_v76]

abbrev fwd6 : List (HloOp τ sig (Elt F)) :=
  [ StableHlo.TRef.unary (.of main_while0b_v71 : StableHlo.TRef sig ⟨S128x52, .f32⟩) (.of main_while0b_call4_v0 : StableHlo.TRef sig ⟨S1x128x52, .f32⟩) (broadcastInDim S1x128x52 ![1, 2] bcast_S128x52_S1x128x52_1_2),
    StableHlo.TRef.nullary (.of main_while0b_call4_c : StableHlo.TRef sig ⟨S_, .i32⟩) (constantI S_ 32 0#32),
    StableHlo.TRef.nullary (.of main_while0b_call4_c_0 : StableHlo.TRef sig ⟨S_, .i32⟩) (constantI S_ 32 0#32),
    StableHlo.TRef.binaryIndexed (.of main_v14_5 : StableHlo.TRef sig ⟨S511x128x52, .f32⟩) (.of main_while0b_call4_v0 : StableHlo.TRef sig ⟨S1x128x52, .f32⟩) ![(.of main_v14_3 : StableHlo.TRef sig ⟨S_, .i32⟩), (.of main_while0b_call4_c : StableHlo.TRef sig ⟨S_, .i32⟩), (.of main_while0b_call4_c_0 : StableHlo.TRef sig ⟨S_, .i32⟩)] (.of main_while0b_v77 : StableHlo.TRef sig ⟨S511x128x52, .f32⟩) (fun x u i => Host.dynamicUpdateSlice x u (fun k => (i k (Shape.Idx.first h_S_)).toInt) updateFits_S511x128x52_S1x128x52) ]

/-- What `fwd6` writes, in order. -/
abbrev fwd6W : List (Ref sig .tc) := [main_while0b_call4_v0, main_while0b_call4_c, main_while0b_call4_c_0, main_while0b_v77]

abbrev fwd7 : List (HloOp τ sig (Elt F)) :=
  [ StableHlo.TRef.unary (.of main_while0b_v76 : StableHlo.TRef sig ⟨S128x52, .i32⟩) (.of main_while0b_call5_v0 : StableHlo.TRef sig ⟨S1x128x52, .i32⟩) (broadcastInDim S1x128x52 ![1, 2] bcast_S128x52_S1x128x52_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v14_6 : StableHlo.TRef sig ⟨S511x128x52, .i32⟩) (.of main_while0b_call5_v0 : StableHlo.TRef sig ⟨S1x128x52, .i32⟩) ![(.of main_v14_3 : StableHlo.TRef sig ⟨S_, .i32⟩), (.of main_while0b_call5_c : StableHlo.TRef sig ⟨S_, .i32⟩), (.of main_while0b_call5_c_0 : StableHlo.TRef sig ⟨S_, .i32⟩)] (.of main_while0b_v78 : StableHlo.TRef sig ⟨S511x128x52, .i32⟩) (fun x u i => Host.dynamicUpdateSlice x u (fun k => (i k (Shape.Idx.first h_S_)).toInt) updateFits_S511x128x52_S1x128x52) ]

/-- What `fwd7` writes, in order. -/
abbrev fwd7W : List (Ref sig .tc) := [main_while0b_call5_v0, main_while0b_call5_c, main_while0b_call5_c_0, main_while0b_v78]

abbrev fwd8 : List (HloOp τ sig (Elt F)) :=
  [ StableHlo.nullary main_while0b_c_19 (constantI S_ 32 1#32),
    StableHlo.binary main_v14_3 main_while0b_c_19 main_while0b_v79 (addi : (⟨S_, .i32⟩ : BufTy).Contents (Elt F) → (⟨S_, .i32⟩ : BufTy).Contents (Elt F) → (⟨S_, .i32⟩ : BufTy).Contents (Elt F)),
    StableHlo.unary main_while0b_v79 main_v14_3 id,
    StableHlo.unary main_while0b_v71 main_v14_4 id,
    StableHlo.unary main_while0b_v77 main_v14_5 id,
    StableHlo.unary main_while0b_v78 main_v14_6 id ]

/-- What `fwd8` writes, in order. -/
abbrev fwd8W : List (Ref sig .tc) := [main_while0b_c_19, main_while0b_v79, main_v14_3, main_v14_4, main_v14_5, main_v14_6]

/-! ## Operations between the two loops -/

abbrev mid0 : List (HloOp τ sig (Elt F)) :=
  [ StableHlo.unary main_v9 main_v15 (broadcastInDim S1x128x52 ![1, 2] bcast_S128x52_S1x128x52_1_2 : (⟨S128x52, .f32⟩ : BufTy).Contents (Elt F) → (⟨S1x128x52, .f32⟩ : BufTy).Contents (Elt F)),
    StableHlo.binary main_v15 main_v14_5 main_v16 ((fun a b => concatenate S512x128x52 0 [⟨S1x128x52, a⟩, ⟨S511x128x52, b⟩] concatenates_S1x128x52_S511x128x52_S512x128x52_d0) : (⟨S1x128x52, .f32⟩ : BufTy).Contents (Elt F) → (⟨S511x128x52, .f32⟩ : BufTy).Contents (Elt F) → (⟨S512x128x52, .f32⟩ : BufTy).Contents (Elt F)),
    StableHlo.nullary main_cst_1 (constant S_ .f32 0x00000000#32),
    StableHlo.binary main_arg1 main_cst_1 main_v17 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_v17 main_v18 (fptosi 32 : (⟨S128, .f32⟩ : BufTy).Contents (Elt F) → (⟨S128, .i32⟩ : BufTy).Contents (Elt F)),
    StableHlo.nullary main_c_2 (constantI S_ 32 1#32),
    StableHlo.unary main_c_2 main_v19 (broadcastInDim S128 ![] bcast_S_S128 : (⟨S_, .i32⟩ : BufTy).Contents (Elt F) → (⟨S128, .i32⟩ : BufTy).Contents (Elt F)),
    StableHlo.binary main_v18 main_v19 main_v20 (subi : (⟨S128, .i32⟩ : BufTy).Contents (Elt F) → (⟨S128, .i32⟩ : BufTy).Contents (Elt F) → (⟨S128, .i32⟩ : BufTy).Contents (Elt F)),
    StableHlo.unary main_v16 main_v21 ((transpose S128x512x52 [1, 0, 2] · transposes_S512x128x52_S128x512x52_1_0_2) : (⟨S512x128x52, .f32⟩ : BufTy).Contents (Elt F) → (⟨S128x512x52, .f32⟩ : BufTy).Contents (Elt F)),
    StableHlo.unary main_v20 main_v22 (broadcastInDim S128x1x1 ![0] bcast_S128_S128x1x1_0 : (⟨S128, .i32⟩ : BufTy).Contents (Elt F) → (⟨S128x1x1, .i32⟩ : BufTy).Contents (Elt F)),
    StableHlo.unary main_v22 main_v23 (broadcastInDim S128x1x52 ![0, 1, 2] bcast_S128x1x1_S128x1x52_0_1_2 : (⟨S128x1x1, .i32⟩ : BufTy).Contents (Elt F) → (⟨S128x1x52, .i32⟩ : BufTy).Contents (Elt F)) ]

/-- What `mid0` writes, in order. -/
abbrev mid0W : List (Ref sig .tc) := [main_v15, main_v16, main_cst_1, main_v17, main_v18, main_c_2, main_v19, main_v20, main_v21, main_v22, main_v23]

abbrev mid1 : List (HloOp τ sig (Elt F)) :=
  [ StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S128x1x52, .i32⟩) (broadcastInDim S128x1x52 ![] bcast_S_S128x1x52),
    StableHlo.TRef.binary (.of main_v23 : StableHlo.TRef sig ⟨S128x1x52, .i32⟩) (.of main_call6_v0 : StableHlo.TRef sig ⟨S128x1x52, .i32⟩) (.of main_call6_v1 : StableHlo.TRef sig ⟨S128x1x52, .i1⟩) (cmpi .slt),
    StableHlo.TRef.nullary (.of main_call6_c_0 : StableHlo.TRef sig ⟨S_, .i32⟩) (constantI S_ 32 512#32),
    StableHlo.TRef.unary (.of main_call6_c_0 : StableHlo.TRef sig ⟨S_, .i32⟩) (.of main_call6_v2 : StableHlo.TRef sig ⟨S128x1x52, .i32⟩) (broadcastInDim S128x1x52 ![] bcast_S_S128x1x52),
    StableHlo.TRef.binary (.of main_v23 : StableHlo.TRef sig ⟨S128x1x52, .i32⟩) (.of main_call6_v2 : StableHlo.TRef sig ⟨S128x1x52, .i32⟩) (.of main_call6_v3 : StableHlo.TRef sig ⟨S128x1x52, .i32⟩) addi,
    StableHlo.TRef.ternary (.of main_call6_v1 : StableHlo.TRef sig ⟨S128x1x52, .i1⟩) (.of main_call6_v3 : StableHlo.TRef sig ⟨S128x1x52, .i32⟩) (.of main_v23 : StableHlo.TRef sig ⟨S128x1x52, .i32⟩) (.of main_call6_v4 : StableHlo.TRef sig ⟨S128x1x52, .i32⟩) select,
    StableHlo.TRef.reshape (.of main_call6_v4 : StableHlo.TRef sig ⟨S128x1x52, .i32⟩) (.of main_call6_v5 : StableHlo.TRef sig ⟨S128x1x52x1, .i32⟩) (rfl : (.i32 : EltTy) = .i32) shapeCasts_S128x1x52_S128x1x52x1,
    StableHlo.TRef.nullary (.of main_call6_c_1 : StableHlo.TRef sig ⟨S1, .i32⟩) (constantI S1 32 511#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S128x1x52x1, .i32⟩) (broadcastInDim S128x1x52x1 ![] bcast_S_S128x1x52x1),
    StableHlo.TRef.binary (.of main_call6_v5 : StableHlo.TRef sig ⟨S128x1x52x1, .i32⟩) (.of main_call6_v6 : StableHlo.TRef sig ⟨S128x1x52x1, .i32⟩) (.of main_call6_v7 : StableHlo.TRef sig ⟨S128x1x52x1, .i1⟩) (cmpi .sge),
    StableHlo.TRef.unary (.of main_call6_c_1 : StableHlo.TRef sig ⟨S1, .i32⟩) (.of main_call6_v8 : StableHlo.TRef sig ⟨S1x1x1x1, .i32⟩) (broadcastInDim S1x1x1x1 ![3] bcast_S1_S1x1x1x1_3),
    StableHlo.TRef.unary (.of main_call6_v8 : StableHlo.TRef sig ⟨S1x1x1x1, .i32⟩) (.of main_call6_v9 : StableHlo.TRef sig ⟨S128x1x52x1, .i32⟩) (broadcastInDim S128x1x52x1 ![0, 1, 2, 3] bcast_S1x1x1x1_S128x1x52x1_0_1_2_3),
    StableHlo.TRef.binary (.of main_call6_v5 : StableHlo.TRef sig ⟨S128x1x52x1, .i32⟩) (.of main_call6_v9 : StableHlo.TRef sig ⟨S128x1x52x1, .i32⟩) (.of main_call6_v10 : StableHlo.TRef sig ⟨S128x1x52x1, .i1⟩) (cmpi .sle),
    StableHlo.TRef.binary (.of main_call6_v7 : StableHlo.TRef sig ⟨S128x1x52x1, .i1⟩) (.of main_call6_v10 : StableHlo.TRef sig ⟨S128x1x52x1, .i1⟩) (.of main_call6_v11 : StableHlo.TRef sig ⟨S128x1x52x1, .i1⟩) andi,
    StableHlo.TRef.nullary (.of main_call6_c_3 : StableHlo.TRef sig ⟨S_, .i1⟩) (constantI S_ 1 1#1),
    StableHlo.TRef.binary (.of main_call6_v11 : StableHlo.TRef sig ⟨S128x1x52x1, .i1⟩) (.of main_call6_c_3 : StableHlo.TRef sig ⟨S_, .i1⟩) (.of main_call6_v12 : StableHlo.TRef sig ⟨S128x1x52, .i1⟩) (fun x v => Host.reduce IntOp.andi x v reducesTo_S128x1x52x1_S128x1x52_d3 h_S_),
    StableHlo.TRef.binary (.of main_v21 : StableHlo.TRef sig ⟨S128x512x52, .f32⟩) (.of main_call6_v5 : StableHlo.TRef sig ⟨S128x1x52x1, .i32⟩) (.of main_call6_v13 : StableHlo.TRef sig ⟨S128x1x52, .f32⟩) (fun x i => Host.gather gather_S128x512x52_S128x1x52x1_S128x1x52_n_1_02_02_1_3_111 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S128x1x52, .f32⟩) (broadcastInDim S128x1x52 ![] bcast_S_S128x1x52),
    StableHlo.TRef.ternary (.of main_call6_v12 : StableHlo.TRef sig ⟨S128x1x52, .i1⟩) (.of main_call6_v13 : StableHlo.TRef sig ⟨S128x1x52, .f32⟩) (.of main_call6_v14 : StableHlo.TRef sig ⟨S128x1x52, .f32⟩) (.of main_v24 : StableHlo.TRef sig ⟨S128x1x52, .f32⟩) select ]

/-- What `mid1` writes, in order. -/
abbrev mid1W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_cst, main_call6_v14, main_v24]

abbrev mid2 : List (HloOp τ sig (Elt F)) :=
  [ StableHlo.reshape main_v24 main_v25 (rfl : (.f32 : EltTy) = .f32) shapeCasts_S128x1x52_S128x52,
    StableHlo.unary main_v25 main_v26 (broadcastInDim S128x52x1 ![0, 1] bcast_S128x52_S128x52x1_0_1 : (⟨S128x52, .f32⟩ : BufTy).Contents (Elt F) → (⟨S128x52x1, .f32⟩ : BufTy).Contents (Elt F)),
    StableHlo.unary main_arg2 main_v27 (broadcastInDim S1x52x52 ![1, 2] bcast_S52x52_S1x52x52_1_2 : (⟨S52x52, .f32⟩ : BufTy).Contents (Elt F) → (⟨S1x52x52, .f32⟩ : BufTy).Contents (Elt F)),
    StableHlo.unary main_v26 main_v28 (broadcastInDim S128x52x52 ![0, 1, 2] bcast_S128x52x1_S128x52x52_0_1_2 : (⟨S128x52x1, .f32⟩ : BufTy).Contents (Elt F) → (⟨S128x52x52, .f32⟩ : BufTy).Contents (Elt F)),
    StableHlo.unary main_v27 main_v29 (broadcastInDim S128x52x52 ![0, 1, 2] bcast_S1x52x52_S128x52x52_0_1_2 : (⟨S1x52x52, .f32⟩ : BufTy).Contents (Elt F) → (⟨S128x52x52, .f32⟩ : BufTy).Contents (Elt F)),
    StableHlo.binary main_v28 main_v29 main_v30 (addf : (⟨S128x52x52, .f32⟩ : BufTy).Contents (Elt F) → (⟨S128x52x52, .f32⟩ : BufTy).Contents (Elt F) → (⟨S128x52x52, .f32⟩ : BufTy).Contents (Elt F)) ]

/-- What `mid2` writes, in order. -/
abbrev mid2W : List (Ref sig .tc) := [main_v25, main_v26, main_v27, main_v28, main_v29, main_v30]

abbrev mid3 : List (HloOp τ sig (Elt F)) :=
  [ StableHlo.TRef.nullary (.of main_call7_v0 : StableHlo.TRef sig ⟨S128x52x52, .i32⟩) (iotaInDim S128x52x52 32 1),
    StableHlo.TRef.nullary (.of main_call7_cst : StableHlo.TRef sig ⟨S_, .f32⟩) (constant S_ .f32 0xFF800000#32),
    StableHlo.TRef.nullary (.of main_call7_c : StableHlo.TRef sig ⟨S_, .i32⟩) (constantI S_ 32 0#32),
    StableHlo.TRef.quaternary (.of main_v30 : StableHlo.TRef sig ⟨S128x52x52, .f32⟩) (.of main_call7_v0 : StableHlo.TRef sig ⟨S128x52x52, .i32⟩) (.of main_call7_cst : StableHlo.TRef sig ⟨S_, .f32⟩) (.of main_call7_c : StableHlo.TRef sig ⟨S_, .i32⟩) (.of main_call7_v1_0 : StableHlo.TRef sig ⟨S128x52, .f32⟩) (fun x y u v j => (Host.argReduce reducer_argmax_f32_i32 x y u v reducesTo_S128x52x52_S128x52_d1 h_S_ j).1),
    StableHlo.TRef.quaternary (.of main_v30 : StableHlo.TRef sig ⟨S128x52x52, .f32⟩) (.of main_call7_v0 : StableHlo.TRef sig ⟨S128x52x52, .i32⟩) (.of main_call7_cst : StableHlo.TRef sig ⟨S_, .f32⟩) (.of main_call7_c : StableHlo.TRef sig ⟨S_, .i32⟩) (.of main_v31 : StableHlo.TRef sig ⟨S128x52, .i32⟩) (fun x y u v j => (Host.argReduce reducer_argmax_f32_i32 x y u v reducesTo_S128x52x52_S128x52_d1 h_S_ j).2) ]

/-- What `mid3` writes, in order. -/
abbrev mid3W : List (Ref sig .tc) := [main_call7_v0, main_call7_cst, main_call7_c, main_call7_v1_0, main_v31]

abbrev mid4 : List (HloOp τ sig (Elt F)) :=
  [ StableHlo.unary main_v31 main_v32 ((extractStridedSlice S128x1 ![0, 51] · slices_S128x52_S128x1_0_51) : (⟨S128x52, .i32⟩ : BufTy).Contents (Elt F) → (⟨S128x1, .i32⟩ : BufTy).Contents (Elt F)),
    StableHlo.reshape main_v32 main_v33 (rfl : (.i32 : EltTy) = .i32) shapeCasts_S128x1_S128,
    StableHlo.nullary main_c_3 (constantI S_ 32 0#32),
    StableHlo.unary main_c_3 main_v34 (broadcastInDim S1x128x52 ![] bcast_S_S1x128x52 : (⟨S_, .i32⟩ : BufTy).Contents (Elt F) → (⟨S1x128x52, .i32⟩ : BufTy).Contents (Elt F)),
    StableHlo.binary main_v14_6 main_v34 main_v35 ((fun a b => concatenate S512x128x52 0 [⟨S511x128x52, a⟩, ⟨S1x128x52, b⟩] concatenates_S511x128x52_S1x128x52_S512x128x52_d0) : (⟨S511x128x52, .i32⟩ : BufTy).Contents (Elt F) → (⟨S1x128x52, .i32⟩ : BufTy).Contents (Elt F) → (⟨S512x128x52, .i32⟩ : BufTy).Contents (Elt F)),
    StableHlo.unary main_v35 main_v36 ((transpose S128x512x52 [1, 0, 2] · transposes_S512x128x52_S128x512x52_1_0_2) : (⟨S512x128x52, .i32⟩ : BufTy).Contents (Elt F) → (⟨S128x512x52, .i32⟩ : BufTy).Contents (Elt F)),
    StableHlo.nullary main_v37 (iotaInDim S128 32 0),
    StableHlo.unary main_v33 main_v38 (broadcastInDim S128x1 ![0] bcast_S128_S128x1_0 : (⟨S128, .i32⟩ : BufTy).Contents (Elt F) → (⟨S128x1, .i32⟩ : BufTy).Contents (Elt F)),
    StableHlo.nullary main_c_4 (constantI S_ 32 0#32),
    StableHlo.unary main_c_4 main_v39 (broadcastInDim S128 ![] bcast_S_S128 : (⟨S_, .i32⟩ : BufTy).Contents (Elt F) → (⟨S128, .i32⟩ : BufTy).Contents (Elt F)),
    StableHlo.binary main_v37 main_v39 main_v40 (cmpi .slt : (⟨S128, .i32⟩ : BufTy).Contents (Elt F) → (⟨S128, .i32⟩ : BufTy).Contents (Elt F) → (⟨S128, .i1⟩ : BufTy).Contents (Elt F)),
    StableHlo.nullary main_c_5 (constantI S_ 32 128#32),
    StableHlo.unary main_c_5 main_v41 (broadcastInDim S128 ![] bcast_S_S128 : (⟨S_, .i32⟩ : BufTy).Contents (Elt F) → (⟨S128, .i32⟩ : BufTy).Contents (Elt F)),
    StableHlo.binary main_v37 main_v41 main_v42 (addi : (⟨S128, .i32⟩ : BufTy).Contents (Elt F) → (⟨S128, .i32⟩ : BufTy).Contents (Elt F) → (⟨S128, .i32⟩ : BufTy).Contents (Elt F)),
    StableHlo.ternary main_v40 main_v42 main_v37 main_v43 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.nullary main_c_6 (constantI S_ 32 0#32) ]

/-- What `mid4` writes, in order. -/
abbrev mid4W : List (Ref sig .tc) := [main_v32, main_v33, main_c_3, main_v34, main_v35, main_v36, main_v37, main_v38, main_c_4, main_v39, main_v40, main_c_5, main_v41, main_v42, main_v43, main_c_6]

abbrev mid5 : List (HloOp τ sig (Elt F)) :=
  [ StableHlo.unary main_c_6 main_v44 (broadcastInDim S128 ![] bcast_S_S128 : (⟨S_, .i32⟩ : BufTy).Contents (Elt F) → (⟨S128, .i32⟩ : BufTy).Contents (Elt F)),
    StableHlo.binary main_v20 main_v44 main_v45 (cmpi .slt : (⟨S128, .i32⟩ : BufTy).Contents (Elt F) → (⟨S128, .i32⟩ : BufTy).Contents (Elt F) → (⟨S128, .i1⟩ : BufTy).Contents (Elt F)),
    StableHlo.nullary main_c_7 (constantI S_ 32 512#32),
    StableHlo.unary main_c_7 main_v46 (broadcastInDim S128 ![] bcast_S_S128 : (⟨S_, .i32⟩ : BufTy).Contents (Elt F) → (⟨S128, .i32⟩ : BufTy).Contents (Elt F)),
    StableHlo.binary main_v20 main_v46 main_v47 (addi : (⟨S128, .i32⟩ : BufTy).Contents (Elt F) → (⟨S128, .i32⟩ : BufTy).Contents (Elt F) → (⟨S128, .i32⟩ : BufTy).Contents (Elt F)),
    StableHlo.ternary main_v45 main_v47 main_v20 main_v48 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v43 main_v49 (broadcastInDim S128x1 ![0] bcast_S128_S128x1_0 : (⟨S128, .i32⟩ : BufTy).Contents (Elt F) → (⟨S128x1, .i32⟩ : BufTy).Contents (Elt F)),
    StableHlo.unary main_v48 main_v50 (broadcastInDim S128x1 ![0] bcast_S128_S128x1_0 : (⟨S128, .i32⟩ : BufTy).Contents (Elt F) → (⟨S128x1, .i32⟩ : BufTy).Contents (Elt F)),
    StableHlo.binary main_v49 main_v50 main_v51 ((fun a b => concatenate S128x2 1 [⟨S128x1, a⟩, ⟨S128x1, b⟩] concatenates_S128x1_S128x1_S128x2_d1) : (⟨S128x1, .i32⟩ : BufTy).Contents (Elt F) → (⟨S128x1, .i32⟩ : BufTy).Contents (Elt F) → (⟨S128x2, .i32⟩ : BufTy).Contents (Elt F)),
    StableHlo.unary main_v38 main_v52 (broadcastInDim S128x52 ![0, 1] bcast_S128x1_S128x52_0_1 : (⟨S128x1, .i32⟩ : BufTy).Contents (Elt F) → (⟨S128x52, .i32⟩ : BufTy).Contents (Elt F)),
    StableHlo.ternary main_v36 main_v51 main_v52 main_v53 ((fun x i u => Host.scatter scatter_S128x512x52_S128x2_S128x52_1_01_01_1 (fun _ b => b) x i u) : (⟨S128x512x52, .i32⟩ : BufTy).Contents (Elt F) → (⟨S128x2, .i32⟩ : BufTy).Contents (Elt F) → (⟨S128x52, .i32⟩ : BufTy).Contents (Elt F) → (⟨S128x512x52, .i32⟩ : BufTy).Contents (Elt F)),
    StableHlo.unary main_v53 main_v54 ((transpose S512x128x52 [1, 0, 2] · transposes_S128x512x52_S512x128x52_1_0_2) : (⟨S128x512x52, .i32⟩ : BufTy).Contents (Elt F) → (⟨S512x128x52, .i32⟩ : BufTy).Contents (Elt F)),
    StableHlo.unary main_v54 main_v55 ((extractStridedSlice S511x128x52 ![0, 0, 0] · slices_S512x128x52_S511x128x52_0_0_0) : (⟨S512x128x52, .i32⟩ : BufTy).Contents (Elt F) → (⟨S511x128x52, .i32⟩ : BufTy).Contents (Elt F)),
    StableHlo.nullary main_c_8 (constantI S_ 32 0#32),
    StableHlo.unary main_c_8 main_v56 (broadcastInDim S511x128 ![] bcast_S_S511x128 : (⟨S_, .i32⟩ : BufTy).Contents (Elt F) → (⟨S511x128, .i32⟩ : BufTy).Contents (Elt F)),
    StableHlo.nullary main_c_9 (constantI S_ 32 0#32),
    StableHlo.unary main_v55 main_v57_0 id,
    StableHlo.unary main_c_9 main_v57_1 id,
    StableHlo.unary main_v33 main_v57_2 id,
    StableHlo.unary main_v56 main_v57_3 id ]

/-- What `mid5` writes, in order. -/
abbrev mid5W : List (Ref sig .tc) := [main_v44, main_v45, main_c_7, main_v46, main_v47, main_v48, main_v49, main_v50, main_v51, main_v52, main_v53, main_v54, main_v55, main_c_8, main_v56, main_c_9, main_v57_0, main_v57_1, main_v57_2, main_v57_3]

/-! ## Operations of the backward loop's body -/

abbrev bwd0 : List (HloOp τ sig (Elt F)) :=
  [ StableHlo.nullary main_while1b_c_13 (constantI S_ 32 511#32),
    StableHlo.binary main_while1b_c_13 main_v57_1 main_while1b_v61 (subi : (⟨S_, .i32⟩ : BufTy).Contents (Elt F) → (⟨S_, .i32⟩ : BufTy).Contents (Elt F) → (⟨S_, .i32⟩ : BufTy).Contents (Elt F)),
    StableHlo.nullary main_while1b_c_14 (constantI S_ 32 1#32),
    StableHlo.binary main_while1b_v61 main_while1b_c_14 main_while1b_v62 (subi : (⟨S_, .i32⟩ : BufTy).Contents (Elt F) → (⟨S_, .i32⟩ : BufTy).Contents (Elt F) → (⟨S_, .i32⟩ : BufTy).Contents (Elt F)) ]

/-- What `bwd0` writes, in order. -/
abbrev bwd0W : List (Ref sig .tc) := [main_while1b_c_13, main_while1b_v61, main_while1b_c_14, main_while1b_v62]

abbrev bwd1 : List (HloOp τ sig (Elt F)) :=
  [ StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.unaryIndexed (.of main_v57_0 : StableHlo.TRef sig ⟨S511x128x52, .i32⟩) ![(.of main_while1b_v62 : StableHlo.TRef sig ⟨S_, .i32⟩), (.of main_while1b_call8_c : StableHlo.TRef sig ⟨S_, .i32⟩), (.of main_while1b_call8_c_0 : StableHlo.TRef sig ⟨S_, .i32⟩)] (.of main_while1b_call8_v0 : StableHlo.TRef sig ⟨S1x128x52, .i32⟩) (fun x i => Host.dynamicSlice S1x128x52 x (fun k => (i k (Shape.Idx.first h_S_)).toInt) sliceFits_S511x128x52_S1x128x52),
    StableHlo.TRef.reshape (.of main_while1b_call8_v0 : StableHlo.TRef sig ⟨S1x128x52, .i32⟩) (.of main_while1b_v63 : StableHlo.TRef sig ⟨S128x52, .i32⟩) (rfl : (.i32 : EltTy) = .i32) shapeCasts_S1x128x52_S128x52 ]

/-- What `bwd1` writes, in order. -/
abbrev bwd1W : List (Ref sig .tc) := [main_while1b_call8_c, main_while1b_call8_c_0, main_while1b_call8_v0, main_while1b_v63]

abbrev bwd2 : List (HloOp τ sig (Elt F)) :=
  [ StableHlo.unary main_v57_2 main_while1b_v64 (broadcastInDim S128x1 ![0] bcast_S128_S128x1_0 : (⟨S128, .i32⟩ : BufTy).Contents (Elt F) → (⟨S128x1, .i32⟩ : BufTy).Contents (Elt F)) ]

/-- What `bwd2` writes, in order. -/
abbrev bwd2W : List (Ref sig .tc) := [main_while1b_v64]

abbrev bwd3 : List (HloOp τ sig (Elt F)) :=
  [ StableHlo.TRef.nullary (.of main_while1b_call9_c : StableHlo.TRef sig ⟨S_, .i32⟩) (constantI S_ 32 0#32),
    StableHlo.TRef.unary (.of main_while1b_call9_c : StableHlo.TRef sig ⟨S_, .i32⟩) (.of main_while1b_call9_v0 : StableHlo.TRef sig ⟨S128x1, .i32⟩) (broadcastInDim S128x1 ![] bcast_S_S128x1),
    StableHlo.TRef.binary (.of main_while1b_v64 : StableHlo.TRef sig ⟨S128x1, .i32⟩) (.of main_while1b_call9_v0 : StableHlo.TRef sig ⟨S128x1, .i32⟩) (.of main_while1b_call9_v1 : StableHlo.TRef sig ⟨S128x1, .i1⟩) (cmpi .slt),
    StableHlo.TRef.nullary (.of main_while1b_call9_c_0 : StableHlo.TRef sig ⟨S_, .i32⟩) (constantI S_ 32 52#32),
    StableHlo.TRef.unary (.of main_while1b_call9_c_0 : StableHlo.TRef sig ⟨S_, .i32⟩) (.of main_while1b_call9_v2 : StableHlo.TRef sig ⟨S128x1, .i32⟩) (broadcastInDim S128x1 ![] bcast_S_S128x1),
    StableHlo.TRef.binary (.of main_while1b_v64 : StableHlo.TRef sig ⟨S128x1, .i32⟩) (.of main_while1b_call9_v2 : StableHlo.TRef sig ⟨S128x1, .i32⟩) (.of main_while1b_call9_v3 : StableHlo.TRef sig ⟨S128x1, .i32⟩) addi,
    StableHlo.TRef.ternary (.of main_while1b_call9_v1 : StableHlo.TRef sig ⟨S128x1, .i1⟩) (.of main_while1b_call9_v3 : StableHlo.TRef sig ⟨S128x1, .i32⟩) (.of main_while1b_v64 : StableHlo.TRef sig ⟨S128x1, .i32⟩) (.of main_while1b_call9_v4 : StableHlo.TRef sig ⟨S128x1, .i32⟩) select,
    StableHlo.TRef.reshape (.of main_while1b_call9_v4 : StableHlo.TRef sig ⟨S128x1, .i32⟩) (.of main_while1b_call9_v5 : StableHlo.TRef sig ⟨S128x1x1, .i32⟩) (rfl : (.i32 : EltTy) = .i32) shapeCasts_S128x1_S128x1x1,
    StableHlo.TRef.nullary (.of main_while1b_call9_c_1 : StableHlo.TRef sig ⟨S1, .i32⟩) (constantI S1 32 51#32),
    StableHlo.TRef.nullary (.of main_while1b_call9_c_2 : StableHlo.TRef sig ⟨S_, .i32⟩) (constantI S_ 32 0#32),
    StableHlo.TRef.unary (.of main_while1b_call9_c_2 : StableHlo.TRef sig ⟨S_, .i32⟩) (.of main_while1b_call9_v6 : StableHlo.TRef sig ⟨S128x1x1, .i32⟩) (broadcastInDim S128x1x1 ![] bcast_S_S128x1x1),
    StableHlo.TRef.binary (.of main_while1b_call9_v5 : StableHlo.TRef sig ⟨S128x1x1, .i32⟩) (.of main_while1b_call9_v6 : StableHlo.TRef sig ⟨S128x1x1, .i32⟩) (.of main_while1b_call9_v7 : StableHlo.TRef sig ⟨S128x1x1, .i1⟩) (cmpi .sge),
    StableHlo.TRef.unary (.of main_while1b_call9_c_1 : StableHlo.TRef sig ⟨S1, .i32⟩) (.of main_while1b_call9_v8 : StableHlo.TRef sig ⟨S1x1x1, .i32⟩) (broadcastInDim S1x1x1 ![2] bcast_S1_S1x1x1_2),
    StableHlo.TRef.unary (.of main_while1b_call9_v8 : StableHlo.TRef sig ⟨S1x1x1, .i32⟩) (.of main_while1b_call9_v9 : StableHlo.TRef sig ⟨S128x1x1, .i32⟩) (broadcastInDim S128x1x1 ![0, 1, 2] bcast_S1x1x1_S128x1x1_0_1_2),
    StableHlo.TRef.binary (.of main_while1b_call9_v5 : StableHlo.TRef sig ⟨S128x1x1, .i32⟩) (.of main_while1b_call9_v9 : StableHlo.TRef sig ⟨S128x1x1, .i32⟩) (.of main_while1b_call9_v10 : StableHlo.TRef sig ⟨S128x1x1, .i1⟩) (cmpi .sle),
    StableHlo.TRef.binary (.of main_while1b_call9_v7 : StableHlo.TRef sig ⟨S128x1x1, .i1⟩) (.of main_while1b_call9_v10 : StableHlo.TRef sig ⟨S128x1x1, .i1⟩) (.of main_while1b_call9_v11 : StableHlo.TRef sig ⟨S128x1x1, .i1⟩) andi,
    StableHlo.TRef.nullary (.of main_while1b_call9_c_3 : StableHlo.TRef sig ⟨S_, .i1⟩) (constantI S_ 1 1#1),
    StableHlo.TRef.binary (.of main_while1b_call9_v11 : StableHlo.TRef sig ⟨S128x1x1, .i1⟩) (.of main_while1b_call9_c_3 : StableHlo.TRef sig ⟨S_, .i1⟩) (.of main_while1b_call9_v12 : StableHlo.TRef sig ⟨S128x1, .i1⟩) (fun x v => Host.reduce IntOp.andi x v reducesTo_S128x1x1_S128x1_d2 h_S_),
    StableHlo.TRef.binary (.of main_while1b_v63 : StableHlo.TRef sig ⟨S128x52, .i32⟩) (.of main_while1b_call9_v5 : StableHlo.TRef sig ⟨S128x1x1, .i32⟩) (.of main_while1b_call9_v13 : StableHlo.TRef sig ⟨S128x1, .i32⟩) (fun x i => Host.gather gather_S128x52_S128x1x1_S128x1_n_1_0_0_1_2_11 x i),
    StableHlo.TRef.nullary (.of main_while1b_call9_c_4 : StableHlo.TRef sig ⟨S_, .i32⟩) (constantI S_ 32 2147483648#32),
    StableHlo.TRef.unary (.of main_while1b_call9_c_4 : StableHlo.TRef sig ⟨S_, .i32⟩) (.of main_while1b_call9_v14 : StableHlo.TRef sig ⟨S128x1, .i32⟩) (broadcastInDim S128x1 ![] bcast_S_S128x1),
    StableHlo.TRef.ternary (.of main_while1b_call9_v12 : StableHlo.TRef sig ⟨S128x1, .i1⟩) (.of main_while1b_call9_v13 : StableHlo.TRef sig ⟨S128x1, .i32⟩) (.of main_while1b_call9_v14 : StableHlo.TRef sig ⟨S128x1, .i32⟩) (.of main_while1b_v65 : StableHlo.TRef sig ⟨S128x1, .i32⟩) select ]

/-- What `bwd3` writes, in order. -/
abbrev bwd3W : List (Ref sig .tc) := [main_while1b_call9_c, main_while1b_call9_v0, main_while1b_call9_v1, main_while1b_call9_c_0, main_while1b_call9_v2, main_while1b_call9_v3, main_while1b_call9_v4, main_while1b_call9_v5, main_while1b_call9_c_1, main_while1b_call9_c_2, main_while1b_call9_v6, main_while1b_call9_v7, main_while1b_call9_v8, main_while1b_call9_v9, main_while1b_call9_v10, main_while1b_call9_v11, main_while1b_call9_c_3, main_while1b_call9_v12, main_while1b_call9_v13, main_while1b_call9_c_4, main_while1b_call9_v14, main_while1b_v65]

abbrev bwd4 : List (HloOp τ sig (Elt F)) :=
  [ StableHlo.reshape main_while1b_v65 main_while1b_v66 (rfl : (.i32 : EltTy) = .i32) shapeCasts_S128x1_S128 ]

/-- What `bwd4` writes, in order. -/
abbrev bwd4W : List (Ref sig .tc) := [main_while1b_v66]

abbrev bwd5 : List (HloOp τ sig (Elt F)) :=
  [ StableHlo.TRef.unary (.of main_while1b_v66 : StableHlo.TRef sig ⟨S128, .i32⟩) (.of main_while1b_call10_v0 : StableHlo.TRef sig ⟨S1x128, .i32⟩) (broadcastInDim S1x128 ![1] bcast_S128_S1x128_1),
    StableHlo.TRef.nullary (.of main_while1b_call10_c : StableHlo.TRef sig ⟨S_, .i32⟩) (constantI S_ 32 0#32),
    StableHlo.TRef.binaryIndexed (.of main_v57_3 : StableHlo.TRef sig ⟨S511x128, .i32⟩) (.of main_while1b_call10_v0 : StableHlo.TRef sig ⟨S1x128, .i32⟩) ![(.of main_while1b_v62 : StableHlo.TRef sig ⟨S_, .i32⟩), (.of main_while1b_call10_c : StableHlo.TRef sig ⟨S_, .i32⟩)] (.of main_while1b_v67 : StableHlo.TRef sig ⟨S511x128, .i32⟩) (fun x u i => Host.dynamicUpdateSlice x u (fun k => (i k (Shape.Idx.first h_S_)).toInt) updateFits_S511x128_S1x128) ]

/-- What `bwd5` writes, in order. -/
abbrev bwd5W : List (Ref sig .tc) := [main_while1b_call10_v0, main_while1b_call10_c, main_while1b_v67]

abbrev bwd6 : List (HloOp τ sig (Elt F)) :=
  [ StableHlo.nullary main_while1b_c_15 (constantI S_ 32 1#32),
    StableHlo.binary main_v57_1 main_while1b_c_15 main_while1b_v68 (addi : (⟨S_, .i32⟩ : BufTy).Contents (Elt F) → (⟨S_, .i32⟩ : BufTy).Contents (Elt F) → (⟨S_, .i32⟩ : BufTy).Contents (Elt F)),
    StableHlo.unary main_while1b_v68 main_v57_1 id,
    StableHlo.unary main_while1b_v66 main_v57_2 id,
    StableHlo.unary main_while1b_v67 main_v57_3 id ]

/-- What `bwd6` writes, in order. -/
abbrev bwd6W : List (Ref sig .tc) := [main_while1b_c_15, main_while1b_v68, main_v57_1, main_v57_2, main_v57_3]

/-! ## Operations after the backward loop -/

abbrev post0 : List (HloOp τ sig (Elt F)) :=
  [ StableHlo.unary main_v33 main_v58 (broadcastInDim S1x128 ![1] bcast_S128_S1x128_1 : (⟨S128, .i32⟩ : BufTy).Contents (Elt F) → (⟨S1x128, .i32⟩ : BufTy).Contents (Elt F)),
    StableHlo.binary main_v57_3 main_v58 main_v59 ((fun a b => concatenate S512x128 0 [⟨S511x128, a⟩, ⟨S1x128, b⟩] concatenates_S511x128_S1x128_S512x128_d0) : (⟨S511x128, .i32⟩ : BufTy).Contents (Elt F) → (⟨S1x128, .i32⟩ : BufTy).Contents (Elt F) → (⟨S512x128, .i32⟩ : BufTy).Contents (Elt F)),
    StableHlo.unary main_v59 main_v60 (broadcastInDim S512x1x128 ![0, 2] bcast_S512x128_S512x1x128_0_2 : (⟨S512x128, .i32⟩ : BufTy).Contents (Elt F) → (⟨S512x1x128, .i32⟩ : BufTy).Contents (Elt F)) ]

/-- What `post0` writes, in order. -/
abbrev post0W : List (Ref sig .tc) := [main_v58, main_v59, main_v60]

end Cert.ReferenceIdeal.Ops

end
-- ==== Proof.RefChain.lean ====
/-
  The reference's @main and its two loop bodies are the chains of their stretches (RefOps.lean); no operation of a
  stretch allocates; what each stretch writes.
-/
module

public import proofs.«01_k».proof.Proof.RefOps

@[expose] public section

noncomputable section

namespace Cert.ReferenceIdeal.Ops

open Cert.ReferenceIdeal Cert.ReferenceIdeal.Gen
open Idealize.ShloMosaic Idealize.ShloMosaic.TcCoe
open Idealize.SL.Sem
open Idealize.ShloMosaic.StableHlo

variable {F : FTy → Type} [FloatOps F]

abbrev preI : List (List (HloOp τ sig (Elt F))) := [pre0]
abbrev fwdI : List (List (HloOp τ sig (Elt F))) := [fwd0, fwd1, fwd2, fwd3, fwd4, fwd5, fwd6, fwd7, fwd8]
abbrev midI : List (List (HloOp τ sig (Elt F))) := [mid0, mid1, mid2, mid3, mid4, mid5]
abbrev bwdI : List (List (HloOp τ sig (Elt F))) := [bwd0, bwd1, bwd2, bwd3, bwd4, bwd5, bwd6]
abbrev postI : List (List (HloOp τ sig (Elt F))) := [post0]

/-- The type of the reference's host programs. -/
abbrev HProg (F : FTy → Type) [FloatOps F] :=
  Prog (TpuEff nD τ sig (Elt F) (HostLoop.Sig (Pipeline.Sig Λ₀ (Fin 0) fun p => (pcfgs (F := F) p).Adm) 2) .tc) PUnit

theorem fwd_chain : main_while0_body (F := F) = Pipeline.chain (fwdI.map fun ops => (seq ops : HProg F)) := by
  show _ = Pipeline.chain [(seq fwd0 : HProg F), seq fwd1, seq fwd2, seq fwd3, seq fwd4, seq fwd5, seq fwd6, seq fwd7, seq fwd8]
  rewrite [Pipeline.chain_cons, Pipeline.chain_cons, chain_seq_cons, Pipeline.chain_cons, chain_seq_cons, Pipeline.chain_cons,
    Pipeline.chain_cons, Pipeline.chain_cons, chain_seq_cons]
  chain_rfl

theorem bwd_chain : main_while1_body (F := F) = Pipeline.chain (bwdI.map fun ops => (seq ops : HProg F)) := by
  show _ = Pipeline.chain [(seq bwd0 : HProg F), seq bwd1, seq bwd2, seq bwd3, seq bwd4, seq bwd5, seq bwd6]
  rewrite [chain_seq_cons, Pipeline.chain_cons, chain_seq_cons, Pipeline.chain_cons, chain_seq_cons, Pipeline.chain_cons, chain_seq_cons]
  chain_rfl

theorem part0_chain (c : Dev nD) : main_part0 (F := F) c = Pipeline.chain
    [(seq pre0 : HProg F), HostLoop.enter 0, seq mid0, seq mid1, seq mid2, seq mid3, seq mid4] := by
  rewrite [chain_seq_cons, Pipeline.chain_cons, chain_seq_cons, Pipeline.chain_cons, chain_seq_cons, Pipeline.chain_cons, chain_seq_cons]
  chain_rfl

theorem part1_chain (c : Dev nD) : main_part1 (F := F) c = Pipeline.chain
    [(seq mid5 : HProg F), HostLoop.enter 1, seq post0] := by
  rewrite [chain_seq_cons, Pipeline.chain_cons, chain_seq_cons]
  chain_rfl

/-- A chain after a chain is the chain of both. -/
theorem chain_bind_chain {E : Type → Type} (xs ys : List (Prog E PUnit)) :
    (Pipeline.chain xs >>= fun _ => Pipeline.chain ys) = Pipeline.chain (xs ++ ys) := by
  induction xs with
  | nil => rfl
  | cons x xs ih => simp only [List.cons_append, Pipeline.chain_cons, bind_assoc, ih]

theorem main_chain (c : Dev nD) : main (F := F) c = Pipeline.chain
    ((preI.map fun ops => (seq ops : HProg F)) ++ HostLoop.enter 0 :: ((midI.map fun ops => (seq ops : HProg F))
      ++ HostLoop.enter 1 :: postI.map fun ops => (seq ops : HProg F))) := by
  have h : main (F := F) c = (main_part0 (F := F) c >>= fun _ => main_part1 (F := F) c) := rfl
  rw [h, part0_chain, part1_chain, chain_bind_chain]
  rfl

/-! ## No stretch allocates, and every operation touches TensorCore references only -/

theorem plain_of {ops : List (HloOp τ sig (Elt F))} {rest : List (List (HloOp τ sig (Elt F)))}
    (hs : ops.Forall fun op => op.bufs ⊆ tcRefs τ sig) (hf : ops.map HloOp.fresh = ops.map fun _ => (∅ : Finset (DevRef τ sig)))
    (h : Plain rest) : Plain (ops :: rest) :=
  .cons hs h (hf := List.forall_iff_forall_mem.mp (forall_fresh_of_map hf))

end Cert.ReferenceIdeal.Ops

end
-- ==== Proof.RefLoops.lean ====
/-
  The run of the reference: @main is stretches of host operations, the forward loop, more stretches, the backward loop and
  the last stretch. Both loops are counted, so every buffer ends at the fold of the operations, each body taken 511 times.
-/
module

public import proofs.«01_k».proof.Proof.RefChain
public import Idealize.ShloMosaic.Lib.Scf.ExitTest
public import Idealize.ShloMosaic.Lib.Scf.Counter

@[expose] public section

noncomputable section

namespace Cert.ReferenceIdeal.Ops

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

theorem plain_pre : Plain (preI (F := F)) :=
  plain_of (by simp only [List.Forall, nullary_bufs_sub, unary_bufs_sub, binary_bufs_sub, ternary_bufs_sub, reshape_bufs_sub, and_self]) rfl .nil
theorem plain_post : Plain (postI (F := F)) :=
  plain_of (by simp only [List.Forall, nullary_bufs_sub, unary_bufs_sub, binary_bufs_sub, ternary_bufs_sub, reshape_bufs_sub, and_self]) rfl .nil
theorem plain_fwd : Plain (fwdI (F := F)) := by
  refine plain_of ?_ rfl (plain_of ?_ rfl (plain_of ?_ rfl (plain_of ?_ rfl (plain_of ?_ rfl (plain_of ?_ rfl (plain_of ?_ rfl (plain_of ?_ rfl (plain_of ?_ rfl .nil))))))))
  all_goals simp only [List.Forall, nullary_bufs_sub, unary_bufs_sub, binary_bufs_sub, ternary_bufs_sub, quaternary_bufs_sub, reshape_bufs_sub,
    unaryIndexed_bufs_sub, binaryIndexed_bufs_sub, and_self]
theorem plain_mid : Plain (midI (F := F)) := by
  refine plain_of ?_ rfl (plain_of ?_ rfl (plain_of ?_ rfl (plain_of ?_ rfl (plain_of ?_ rfl (plain_of ?_ rfl .nil)))))
  all_goals simp only [List.Forall, nullary_bufs_sub, unary_bufs_sub, binary_bufs_sub, ternary_bufs_sub, quaternary_bufs_sub, reshape_bufs_sub,
    unaryIndexed_bufs_sub, binaryIndexed_bufs_sub, and_self]
theorem plain_bwd : Plain (bwdI (F := F)) := by
  refine plain_of ?_ rfl (plain_of ?_ rfl (plain_of ?_ rfl (plain_of ?_ rfl (plain_of ?_ rfl (plain_of ?_ rfl (plain_of ?_ rfl .nil))))))
  all_goals simp only [List.Forall, nullary_bufs_sub, unary_bufs_sub, binary_bufs_sub, ternary_bufs_sub, quaternary_bufs_sub, reshape_bufs_sub,
    unaryIndexed_bufs_sub, binaryIndexed_bufs_sub, and_self]

/-- The two operations of the forward loop's condition: the bound, and the counter compared with it. -/
abbrev cond0 : List (HloOp τ sig (Elt F)) :=
  [ StableHlo.nullary main_while0c_c_16 (constantI S_ 32 511#32),
    StableHlo.binary main_v14_3 main_while0c_c_16 main_while0c_v61 (cmpi .slt) ]
/-- The same of the backward loop's. -/
abbrev cond1 : List (HloOp τ sig (Elt F)) :=
  [ StableHlo.nullary main_while1c_c_13 (constantI S_ 32 511#32),
    StableHlo.binary main_v57_1 main_while1c_c_13 main_while1c_v61 (cmpi .slt) ]

variable (m : (ℓ : Loc nD τ sig) → Buf (Elt F) ℓ) (ρ : Dev nD → PrngReg)

/-- Every buffer before the forward condition's `k`-th run, from 0. -/
abbrev at0 (k : ℕ) (c : Dev nD) : Valuation τ sig (Elt F) := atTrip cond0 fwdI (entryContents preI m) k c
/-- Every buffer on the backward loop's entry. -/
abbrev entry1 (c : Dev nD) : Valuation τ sig (Elt F) := afterL midI (after cond0 (at0 m 511 c))
/-- Every buffer before the backward condition's `k`-th run, from 0. -/
abbrev at1 (k : ℕ) (c : Dev nD) : Valuation τ sig (Elt F) := atTrip cond1 bwdI (entry1 m) k c
/-- Every buffer at the end. -/
abbrev final (c : Dev nD) : Valuation τ sig (Elt F) := afterL postI (after cond1 (at1 m 511 c))

/-! ## The counters -/

/-- Reads a reference off a list of stretches that end in an add of one to it. -/
theorem ctr0_step (V : Valuation τ sig (Elt F)) : afterL fwdI (after cond0 V) (Proc.devRef .tc main_v14_3)
    = addi (V (Proc.devRef .tc main_v14_3)) (constantI S_ 32 1#32) := by
  simp only [afterL_cons, afterL_nil]
  have h8 : ∀ X : Valuation τ sig (Elt F), after fwd8 X (Proc.devRef .tc main_v14_3) = addi (X (Proc.devRef .tc main_v14_3)) (constantI S_ 32 1#32) := by
    intro X; after_results; rfl
  rw [h8, after_unwritten fwd7W rfl (by decide +kernel), after_unwritten fwd6W rfl (by decide +kernel), after_unwritten fwd5W rfl (by decide +kernel),
    after_unwritten fwd4W rfl (by decide +kernel), after_unwritten fwd3W rfl (by decide +kernel), after_unwritten fwd2W rfl (by decide +kernel),
    after_unwritten fwd1W rfl (by decide +kernel), after_unwritten fwd0W rfl (by decide +kernel),
    after_unwritten [main_while0c_c_16, main_while0c_v61] rfl (by decide +kernel)]

theorem ctr1_step (V : Valuation τ sig (Elt F)) : afterL bwdI (after cond1 V) (Proc.devRef .tc main_v57_1)
    = addi (V (Proc.devRef .tc main_v57_1)) (constantI S_ 32 1#32) := by
  simp only [afterL_cons, afterL_nil]
  have h8 : ∀ X : Valuation τ sig (Elt F), after bwd6 X (Proc.devRef .tc main_v57_1) = addi (X (Proc.devRef .tc main_v57_1)) (constantI S_ 32 1#32) := by
    intro X; after_results; rfl
  rw [h8, after_unwritten bwd5W rfl (by decide +kernel),
    after_unwritten bwd4W rfl (by decide +kernel), after_unwritten bwd3W rfl (by decide +kernel), after_unwritten bwd2W rfl (by decide +kernel),
    after_unwritten bwd1W rfl (by decide +kernel), after_unwritten bwd0W rfl (by decide +kernel),
    after_unwritten [main_while1c_c_13, main_while1c_v61] rfl (by decide +kernel)]

theorem at0_ctr (c : Dev nD) : ∀ k, at0 m k c (Proc.devRef .tc main_v14_3) = fun _ => Scf.iv 0#32 1#32 k
  | 0 => by
    show entryContents preI m c _ = _
    simp only [entryContents, afterL_cons, afterL_nil]
    after_reads_simp
    rw [Scf.iv_zero]; rfl
  | k + 1 => by rw [show at0 m (k + 1) c = afterL fwdI (after cond0 (at0 m k c)) from rfl, ctr0_step, at0_ctr c k, Scf.iv_succ]; rfl

theorem at1_ctr (c : Dev nD) : ∀ k, at1 m k c (Proc.devRef .tc main_v57_1) = fun _ => Scf.iv 0#32 1#32 k
  | 0 => by
    show entry1 m c _ = _
    simp only [entry1, afterL_cons, afterL_nil]
    generalize after mid4 _ = V
    after_reads_simp
    rw [Scf.iv_zero]; rfl
  | k + 1 => by rw [show at1 m (k + 1) c = afterL bwdI (after cond1 (at1 m k c)) from rfl, ctr1_step, at1_ctr c k, Scf.iv_succ]; rfl

/-! ## The conditions -/

set_option backward.isDefEq.respectTransparency.types false in
theorem cond0_spec : CondSpec (pcfgs (F := F)) defs₀ loops (main_while0_cond (F := F)) cond0 fwdI (entryContents preI m) 511 := by
  intro k hk c bd
  have hctr := at0_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 m k c) main_v14_3 HostLoop.idx0)
        (HloOp.result _ (at0 m k c) main_while0c_c_16 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  rw [after_cons, after_cons, after_nil]; iexact Hh

set_option backward.isDefEq.respectTransparency.types false in
theorem cond1_spec : CondSpec (pcfgs (F := F)) defs₀ loops (main_while1_cond (F := F)) cond1 bwdI (entry1 m) 511 := by
  intro k hk c bd
  have hctr := at1_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 m k c) main_v57_1 HostLoop.idx0)
        (HloOp.result _ (at1 m k c) main_while1c_c_13 HostLoop.idx0) = 1#1) (k < 511)
    rw [nullary_result_ne _ _ _ _ (by decide), nullary_result, hctr]
    exact Scf.cmpi_slt_iv_ub_iff (lb := 0#32) (ub := 511#32) (st := 1#32) (by decide) (show k ≤ Scf.trips 0#32 511#32 1#32 from hk)
  isplitl [Hb]; · iexact Hb
  rw [after_cons, after_cons, after_nil]; iexact Hh

/-! ## The run -/

local notation "𝕄" => MT nD τ sig Unit (Elt F) ℕ (Option PUnit) ℕ

/-- No pipeline: nothing is admitted, no ticket is dealt and no cell has a level. -/
abbrev adm : (p : Fin 0) → (pcfgs (F := F) p).Adm := fun p => p.elim0
abbrev tickets : Fin 0 → Ticket (Ix := Unit) (Name := ℕ) (U := Option PUnit) (Lvl := ℕ) (nD := nD) (τ := τ) (pcfgs (F := F)) adm := fun j => j.elim0
abbrev noCells : GSem nD τ sig → Finset Unit := fun _ => ∅
abbrev noLevels : GSem nD τ sig → Unit → ℕ := fun _ _ => 0

/-- What rides beside the buffers: the core owes nothing. -/
abbrev Beside (c : Dev nD) : sProp 𝕄 := iprop(∃ W, owes (c : Thread nD τ) (0 : CellTallies nD τ sig Unit) W)

/-- A condition's specification holds with `Beside` carried through it. -/
theorem loopCond_of {cond} {condOps : List (HloOp τ sig (Elt F))} {bodyI : List (List (HloOp τ sig (Elt F)))} {W₀ : Dev nD → Valuation τ sig (Elt F)}
    (h : CondSpec (pcfgs (F := F)) defs₀ loops cond condOps bodyI W₀ 511) :
    LoopCond (pcfgs (F := F)) defs₀ Variants.none loops Beside cond condOps bodyI W₀ 511 := fun k hk c bd => by
  have hv : ∀ v : Elt F .i1,
      iprop(iprop(⌜v = 1#1 ↔ k < 511⌝ ∗ boundary (c : Thread nD τ) ∗ held (c : Thread nD τ) (ucRefs τ sig) (after condOps (atTrip condOps bodyI W₀ k c))) ∗ Beside c)
        ⊢ iprop(⌜v = 1#1 ↔ k < 511⌝ ∗ boundary (c : Thread nD τ) ∗ held (c : Thread nD τ) (ucRefs τ sig) (after condOps (atTrip condOps bodyI W₀ k c)) ∗ Beside c) := fun v => by
    iintro ⟨⟨%e, Hb, Hh⟩, HR⟩
    isplitr; · ipureintro; exact e
    isplitl [Hb]; · iexact Hb
    isplitl [Hh] <;> iassumption
  refine BIBase.Entails.trans ?_ (((sep_mono_left (h k hk c bd)).trans (wp_frame_r _ _ _)).trans (wp_mono _ _ _ hv))
  iintro ⟨Hb, Hh, HR⟩
  isplitl [Hb Hh]; · isplitl [Hb] <;> iassumption
  iexact HR

/-- @main's segments. -/
def segs : List (CSeg (pcfgs (F := F)) adm defs₀ Variants.none noCells noLevels loops tickets) :=
  segsOf _ _ _ _ _ _ _ _ Beside preI plain_pre (launchContents m)
    ++ (loopSeg _ _ _ _ _ _ _ _ 0 main_while0_cond main_while0_body rfl cond0 fwdI plain_fwd fwd_chain 511 (entryContents preI m) Beside (loopCond_of (cond0_spec m))
      :: (segsOf _ _ _ _ _ _ _ _ Beside midI plain_mid (fun c => after cond0 (at0 m 511 c))
        ++ (loopSeg _ _ _ _ _ _ _ _ 1 main_while1_cond main_while1_body rfl cond1 bwdI plain_bwd bwd_chain 511 (entry1 m) Beside (loopCond_of (cond1_spec m))
          :: segsOf _ _ _ _ _ _ _ _ Beside postI plain_post (fun c => after cond1 (at1 m 511 c)))))

theorem segs_prog : (segs m).map CSeg.prog
    = (preI.map fun ops => (seq ops : HProg F)) ++ HostLoop.enter 0 :: ((midI.map fun ops => (seq ops : HProg F))
      ++ HostLoop.enter 1 :: postI.map fun ops => (seq ops : HProg F)) := by
  unfold segs
  rw [List.map_append, List.map_cons, List.map_append, List.map_cons, segsOf_prog, segsOf_prog, segsOf_prog]
  rfl

theorem segs_chains : CSeg.Chains (fun c => iprop(held (c : Thread nD τ) (ucRefs τ sig) (launchContents m c) ∗ Beside c)) (segs m)
    (fun c => iprop(iprop(held (c : Thread nD τ) (ucRefs τ sig) (final m c)) ∗ ∃ W, owes (c : Thread nD τ) (0 : CellTallies nD τ sig Unit) W)) := by
  unfold segs
  exact CSeg.Chains.append (segsOf_chains _ _ _ _ _ _ _ _ Beside preI plain_pre _)
    ⟨fun _ => .rfl, CSeg.Chains.append (segsOf_chains _ _ _ _ _ _ _ _ Beside midI plain_mid _)
      ⟨fun _ => .rfl, segsOf_chains _ _ _ _ _ _ _ _ Beside postI plain_post _⟩⟩

set_option maxRecDepth 100000 in
/-- Every weakly fair execution of @main ends, each unscoped buffer at the fold. -/
theorem run_final : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = final m c (Proc.devRef .tc b)) :=
  Pipeline.θ_run_regions_loop_kit (Ix := Unit) (Name := ℕ) (U := Option PUnit) (Lvl := ℕ) (J := Fin 0) (P := Fin 0) (Val := Elt F)
    (pcfgs (F := F)) adm (fun k => k.1.elim0) defs₀ Variants.none noCells noLevels loops tickets m ρ main (segs m)
    (fun c Q => by
      rw [main_chain c]
      show wp _ _ _ (Pipeline.chain ((segs m).map CSeg.prog)) Q ⊢ _
      rw [segs_prog])
    (CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Beside c))
    (Tₙ := fun c => iprop(held (c : Thread nD τ) (ucRefs τ sig) (final m c)))
    (hch := segs_chains m)
    (hinit := by
      refine Pipeline.initEach noCells noLevels fun c => ?_
      rw [show unscopedBufs c (fun b => m ((c : Thread nD τ).loc b)) = held (c : Thread nD τ) (ucRefs τ sig) (launchContents m c) from unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = final m c b)
    (hfin := fun c s' => by
      unfold held
      iintro ⟨Hh, HSI⟩
      ihave Hr := (pointsTo_read_all (ucRefs τ sig) (fun b => ((c : Dev nD), b)) (fun b => final m c b) s') $$ [Hh HSI]
      · isplitl [Hh] <;> iassumption
      icases Hr with ⟨%h, HSI⟩
      imodintro
      isplitr; · ipureintro; exact h
      iexact HSI)
    (hQ := fun _ h c b hb => h c _ (devRef_mem_ucRefs b hb))

end Cert.ReferenceIdeal.Ops

end
-- ==== Proof.RefFrame.lean ====
/-
  The reference leaves its arguments: no stretch and no condition writes one.
-/
module

public import proofs.«01_k».proof.Proof.RefLoops
public import Idealize.ShloMosaic.Lib.Quiescent

@[expose] public section

noncomputable section

namespace Cert.ReferenceIdeal.Ops

open Cert.ReferenceIdeal Cert.ReferenceIdeal.Gen
open Idealize.ShloMosaic Idealize.ShloMosaic.TcCoe Idealize.SL.Sem Idealize.ShloMosaic.StableHlo

variable {F : FTy → Type} [FloatOps F]

/-- What the forward trip writes. -/
abbrev fwdW : List (Ref sig .tc) :=
  fwd0W ++ fwd1W ++ fwd2W ++ fwd3W ++ fwd4W ++ fwd5W ++ fwd6W ++ fwd7W ++ fwd8W ++ [main_while0c_c_16, main_while0c_v61]
/-- What the stretches between the loops write. -/
abbrev midW : List (Ref sig .tc) := mid0W ++ mid1W ++ mid2W ++ mid3W ++ mid4W ++ mid5W ++ [main_while0c_c_16, main_while0c_v61]
/-- What the backward trip writes. -/
abbrev bwdW : List (Ref sig .tc) :=
  bwd0W ++ bwd1W ++ bwd2W ++ bwd3W ++ bwd4W ++ bwd5W ++ bwd6W ++ [main_while1c_c_13, main_while1c_v61]

theorem fwd_keep (V : Valuation τ sig (Elt F)) {b : Ref sig .tc} (h : b ∉ fwdW) :
    afterL fwdI (after cond0 V) (Proc.devRef .tc b) = V (Proc.devRef .tc b) := by
  simp only [fwdW, List.mem_append, not_or] at h
  obtain ⟨⟨⟨⟨⟨⟨⟨⟨⟨h0, h1⟩, h2⟩, h3⟩, h4⟩, h5⟩, h6⟩, h7⟩, h8⟩, hc⟩ := h
  simp only [afterL_cons, afterL_nil]
  rw [after_unwritten fwd8W rfl h8, after_unwritten fwd7W rfl h7, after_unwritten fwd6W rfl h6, after_unwritten fwd5W rfl h5,
    after_unwritten fwd4W rfl h4, after_unwritten fwd3W rfl h3, after_unwritten fwd2W rfl h2, after_unwritten fwd1W rfl h1,
    after_unwritten fwd0W rfl h0, after_unwritten [main_while0c_c_16, main_while0c_v61] rfl hc]

theorem mid_keep (V : Valuation τ sig (Elt F)) {b : Ref sig .tc} (h : b ∉ midW) :
    afterL midI (after cond0 V) (Proc.devRef .tc b) = V (Proc.devRef .tc b) := by
  simp only [midW, List.mem_append, not_or] at h
  obtain ⟨⟨⟨⟨⟨⟨h0, h1⟩, h2⟩, h3⟩, h4⟩, h5⟩, hc⟩ := h
  simp only [afterL_cons, afterL_nil]
  rw [after_unwritten mid5W rfl h5, after_unwritten mid4W rfl h4, after_unwritten mid3W rfl h3, after_unwritten mid2W rfl h2,
    after_unwritten mid1W rfl h1, after_unwritten mid0W rfl h0, after_unwritten [main_while0c_c_16, main_while0c_v61] rfl hc]

theorem bwd_keep (V : Valuation τ sig (Elt F)) {b : Ref sig .tc} (h : b ∉ bwdW) :
    afterL bwdI (after cond1 V) (Proc.devRef .tc b) = V (Proc.devRef .tc b) := by
  simp only [bwdW, List.mem_append, not_or] at h
  obtain ⟨⟨⟨⟨⟨⟨⟨h0, h1⟩, h2⟩, h3⟩, h4⟩, h5⟩, h6⟩, hc⟩ := h
  simp only [afterL_cons, afterL_nil]
  rw [after_unwritten bwd6W rfl h6, after_unwritten bwd5W rfl h5,
    after_unwritten bwd4W rfl h4, after_unwritten bwd3W rfl h3, after_unwritten bwd2W rfl h2, after_unwritten bwd1W rfl h1,
    after_unwritten bwd0W rfl h0, after_unwritten [main_while1c_c_13, main_while1c_v61] rfl hc]

variable (m : (ℓ : Loc nD τ sig) → Buf (Elt F) ℓ) (ρ : Dev nD → PrngReg)

theorem at0_keep (c : Dev nD) {b : Ref sig .tc} (h : b ∉ fwdW) : ∀ k, at0 m k c (Proc.devRef .tc b) = at0 m 0 c (Proc.devRef .tc b)
  | 0 => rfl
  | k + 1 => by rw [show at0 m (k + 1) c = afterL fwdI (after cond0 (at0 m k c)) from rfl, fwd_keep _ h, at0_keep c h k]

theorem at1_keep (c : Dev nD) {b : Ref sig .tc} (h : b ∉ bwdW) : ∀ k, at1 m k c (Proc.devRef .tc b) = entry1 m c (Proc.devRef .tc b)
  | 0 => rfl
  | k + 1 => by rw [show at1 m (k + 1) c = afterL bwdI (after cond1 (at1 m k c)) from rfl, bwd_keep _ h, at1_keep c h k]

theorem entry0_keep (c : Dev nD) {b : Ref sig .tc} (h : b ∉ pre0W) : at0 m 0 c (Proc.devRef .tc b) = m ((c.tc : Thread nD τ).loc b) := by
  show entryContents preI m c _ = _
  simp only [entryContents, afterL_cons, afterL_nil]
  rw [after_unwritten pre0W rfl h]

/-- A buffer no operation writes ends as it began. -/
theorem final_keep (c : Dev nD) {b : Ref sig .tc} (hp : b ∉ pre0W) (hf : b ∉ fwdW) (hm : b ∉ midW) (hb : b ∉ bwdW) (ho : b ∉ post0W) :
    final m c (Proc.devRef .tc b) = m ((c.tc : Thread nD τ).loc b) := by
  have hc : b ∉ [main_while1c_c_13, main_while1c_v61] := fun h => hb (List.mem_append_right _ h)
  simp only [final, afterL_cons, afterL_nil]
  rw [after_unwritten post0W rfl ho, after_unwritten [main_while1c_c_13, main_while1c_v61] rfl hc, at1_keep m c hb, show entry1 m c = afterL midI (after cond0 (at0 m 511 c)) from rfl, mid_keep _ hm,
    at0_keep m c hf, entry0_keep m c hp]

theorem final_arg0 (c : Dev nD) : final m c (Proc.devRef .tc main_arg0) = m ((c.tc : Thread nD τ).loc main_arg0) :=
  final_keep m c (by decide +kernel) (by decide +kernel) (by decide +kernel) (by decide +kernel) (by decide +kernel)
theorem final_arg1 (c : Dev nD) : final m c (Proc.devRef .tc main_arg1) = m ((c.tc : Thread nD τ).loc main_arg1) :=
  final_keep m c (by decide +kernel) (by decide +kernel) (by decide +kernel) (by decide +kernel) (by decide +kernel)
theorem final_arg2 (c : Dev nD) : final m c (Proc.devRef .tc main_arg2) = m ((c.tc : Thread nD τ).loc main_arg2) :=
  final_keep m c (by decide +kernel) (by decide +kernel) (by decide +kernel) (by decide +kernel) (by decide +kernel)

/-- The run leaves the arguments and ends with the result at the fold. -/
theorem run_result : θ_run (defs (F := F)) (onTc (τ := τ) (main (F := F))) ⟨m, fun _ => 0, ρ⟩ (fun r => ∀ c : Dev nD,
    r.2.mem ((c.tc : Thread nD τ).loc main_v60) = final m c (Proc.devRef .tc main_v60)
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))) :=
  (θ_run defs _ _).mono (fun _ h c => ⟨h c main_v60 (by decide +kernel),
    (h c main_arg0 (by decide +kernel)).trans (final_arg0 m c),
    (h c main_arg1 (by decide +kernel)).trans (final_arg1 m c),
    (h c main_arg2 (by decide +kernel)).trans (final_arg2 m c)⟩) (run_final m ρ)

theorem frame : θ_run (defs (F := F)) (onTc (τ := τ) (main (F := F))) ⟨m, fun _ => 0, ρ⟩ (fun r => (∀ c : Dev nD,
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (run_result m ρ)

end Cert.ReferenceIdeal.Ops

end
-- ==== Proof.First.lean ====
/-
  The first largest entry of a row of 52 scores, over the extended reals: what a scan with strict comparisons, a merge of
  scans and a fold that breaks ties by the smaller index all find.
-/
module

public import Idealize.ShloMosaic.PureOps.Ideal
public import Idealize.ShloMosaic.PureOps.Ideal.Laws
public import Idealize.ShloMosaic.PureOps.Reduce

@[expose] public section

noncomputable section

namespace Cert.Crf

open Idealize.ShloMosaic

theorem ogt_iff (x y : EReal) : Ideal.cmp .ogt x y = 1 ↔ y < x := by
  show BitVec.ofBool (decide (y < x)) = 1 ↔ _
  by_cases h : y < x <;> simp [h]

theorem oeq_iff (x y : EReal) : Ideal.cmp .oeq x y = 1 ↔ x = y := by
  show BitVec.ofBool (decide (x = y)) = 1 ↔ _
  by_cases h : x = y <;> simp [h]

/-- `m` bounds the scores `g` on `S`, and `i` is the least index that attains it; where the bound is −∞ and nothing is
    asked of `S`, the index is 0. -/
structure First (g : Fin 52 → EReal) (S : Fin 52 → Prop) (m : EReal) (i : Fin 52) : Prop where
  le : ∀ p, S p → g p ≤ m
  least : ∀ p, S p → g p = m → i ≤ p
  found : (m = ⊥ ∧ i = 0) ∨ (S i ∧ g i = m)

/-- The same of a value and an index word. -/
def Holds (g : Fin 52 → EReal) (S : Fin 52 → Prop) (m : EReal) (w : BitVec 32) : Prop :=
  ∃ i, First g S m i ∧ w = BitVec.ofNat 32 i.val

variable {g : Fin 52 → EReal} {S S₁ S₂ : Fin 52 → Prop} {m m₁ m₂ : EReal} {i i₁ i₂ : Fin 52} {w w₁ w₂ : BitVec 32}

theorem First.empty (h : ∀ p, ¬ S p) : First g S ⊥ 0 :=
  ⟨fun p hp => absurd hp (h p), fun p hp => absurd hp (h p), .inl ⟨rfl, rfl⟩⟩

theorem First.single (p : Fin 52) : First g (fun q => q = p) (g p) p :=
  ⟨fun _ h => h ▸ le_rfl, fun _ h _ => h ▸ le_rfl, .inr ⟨rfl, rfl⟩⟩

/-- Over every index the value is attained, also where it is −∞. -/
theorem First.attained (h : First g (fun _ => True) m i) : g i = m := by
  rcases h.found with ⟨hm, hi⟩ | ⟨-, hg⟩
  · subst hm; exact le_bot_iff.1 (h.le i trivial)
  · exact hg

theorem First.unique (h₁ : First g (fun _ => True) m₁ i₁) (h₂ : First g (fun _ => True) m₂ i₂) : m₁ = m₂ ∧ i₁ = i₂ := by
  have hm : m₁ = m₂ := le_antisymm (h₁.attained ▸ h₂.le i₁ trivial) (h₂.attained ▸ h₁.le i₂ trivial)
  subst hm
  exact ⟨rfl, le_antisymm (h₁.least i₂ trivial h₂.attained) (h₂.least i₁ trivial h₁.attained)⟩

theorem Holds.unique (h₁ : Holds g (fun _ => True) m₁ w₁) (h₂ : Holds g (fun _ => True) m₂ w₂) : m₁ = m₂ ∧ w₁ = w₂ := by
  obtain ⟨i₁, f₁, rfl⟩ := h₁
  obtain ⟨i₂, f₂, rfl⟩ := h₂
  obtain ⟨hm, rfl⟩ := f₁.unique f₂
  exact ⟨hm, rfl⟩

theorem Holds.congr (h : Holds g S m w) (hS : ∀ p, S p ↔ S₁ p) : Holds g S₁ m w := by
  rwa [show S₁ = S from funext fun p => propext (hS p).symm]

/-- Two ranges, the second after the first: the second wins only where it is strictly larger. -/
theorem First.merge (h₁ : First g S₁ m₁ i₁) (h₂ : First g S₂ m₂ i₂) (hlt : ∀ p q, S₁ p → S₂ q → p < q) :
    First g (fun p => S₁ p ∨ S₂ p) (max m₁ m₂) (if m₁ < m₂ then i₂ else i₁) := by
  by_cases hc : m₁ < m₂
  · rw [if_pos hc, max_eq_right hc.le]
    have hf : S₂ i₂ ∧ g i₂ = m₂ := by
      rcases h₂.found with ⟨hm, -⟩ | h
      · subst hm; exact absurd hc not_lt_bot
      · exact h
    refine ⟨?_, ?_, .inr ⟨.inr hf.1, hf.2⟩⟩
    · rintro p (hp | hp)
      · exact (h₁.le p hp).trans hc.le
      · exact h₂.le p hp
    · rintro p (hp | hp) e
      · exact absurd (h₁.le p hp) (not_le.2 (e ▸ hc))
      · exact h₂.least p hp e
  · rw [if_neg hc, max_eq_left (not_lt.1 hc)]
    refine ⟨?_, ?_, ?_⟩
    · rintro p (hp | hp)
      · exact h₁.le p hp
      · exact (h₂.le p hp).trans (not_lt.1 hc)
    · rintro p (hp | hp) e
      · exact h₁.least p hp e
      · rcases h₁.found with ⟨-, hi⟩ | ⟨hS, -⟩
        · subst hi; exact Fin.zero_le p
        · exact (hlt i₁ p hS hp).le
    · rcases h₁.found with h | ⟨hS, he⟩
      · exact .inl h
      · exact .inr ⟨.inl hS, he⟩

theorem Holds.merge (h₁ : Holds g S₁ m₁ w₁) (h₂ : Holds g S₂ m₂ w₂) (hlt : ∀ p q, S₁ p → S₂ q → p < q) :
    Holds g (fun p => S₁ p ∨ S₂ p) (max m₁ m₂) (Scalar.select (Ideal.cmp .ogt m₂ m₁) w₂ w₁) := by
  obtain ⟨i₁, f₁, rfl⟩ := h₁
  obtain ⟨i₂, f₂, rfl⟩ := h₂
  refine ⟨_, f₁.merge f₂ hlt, ?_⟩
  unfold Scalar.select
  by_cases hc : m₁ < m₂
  · rw [if_pos hc, if_pos ((ogt_iff _ _).2 hc)]
  · rw [if_neg hc, if_neg (fun e => hc ((ogt_iff _ _).1 e))]

/-- One more candidate, at an index of any order: the larger value, and on equal values the smaller index. -/
theorem First.add (h : First g S m i) (p : Fin 52) :
    First g (fun q => S q ∨ q = p) (max m (g p)) (if g p < m ∨ (m = g p ∧ i < p) then i else p) := by
  by_cases hc : g p < m
  · rw [if_pos (.inl hc), max_eq_left hc.le]
    refine ⟨?_, ?_, ?_⟩
    · rintro q (hq | rfl)
      · exact h.le q hq
      · exact hc.le
    · rintro q (hq | rfl) e
      · exact h.least q hq e
      · exact absurd e hc.ne
    · exact h.found.imp id fun hf => ⟨.inl hf.1, hf.2⟩
  · rw [max_eq_right (not_lt.1 hc)]
    by_cases he : m = g p ∧ i < p
    · rw [if_pos (.inr he)]
      refine ⟨?_, ?_, ?_⟩
      · rintro q (hq | rfl)
        · exact he.1 ▸ h.le q hq
        · exact le_rfl
      · rintro q (hq | rfl) e
        · exact h.least q hq (e.trans he.1.symm)
        · exact he.2.le
      · exact h.found.imp (fun hf => ⟨he.1 ▸ hf.1, hf.2⟩) fun hf => ⟨.inl hf.1, hf.2.trans he.1⟩
    · rw [if_neg (not_or.2 ⟨hc, he⟩)]
      refine ⟨?_, ?_, .inr ⟨.inr rfl, rfl⟩⟩
      · rintro q (hq | rfl)
        · exact (h.le q hq).trans (not_lt.1 hc)
        · exact le_rfl
      · rintro q (hq | rfl) e
        · have hm : m = g p := le_antisymm (not_lt.1 hc) (e ▸ h.le q hq)
          exact (not_lt.1 fun hlt => he ⟨hm, hlt⟩).trans (h.least q hq (e.trans hm.symm))
        · exact le_rfl

/-- The largest of a family, attained, is its fold by `max`. -/
theorem First.fold (h : First g (fun _ => True) m i) : (Finset.univ : Finset (Fin 52)).fold max ⊥ g = m :=
  le_antisymm ((Finset.fold_max_le _).2 ⟨bot_le, fun p _ => h.le p trivial⟩)
    ((Finset.le_fold_max _).2 (.inr ⟨i, Finset.mem_univ i, h.attained.ge⟩))

/-- A fold of a selective operation is the entry that is below every other, for the order that the operation selects by. -/
theorem fold_eq_of_below {ι α : Type} [DecidableEq ι] (op : α → α → α) [Std.Commutative op] [Std.Associative op] (R : α → α → Prop)
    (hsel : ∀ a b, op a b = a ∨ op a b = b) (hl : ∀ a b, R (op a b) a) (htr : ∀ a b c, R a b → R b c → R a c)
    (hanti : ∀ a b, R a b → R b a → a = b) (s : Finset ι) (b : α) (f : ι → α) (x : ι) (hx : x ∈ s) (hb : R (f x) b)
    (hall : ∀ y ∈ s, R (f x) (f y)) : s.fold op b f = f x := by
  have hr : ∀ a b, R (op a b) b := fun a b => by rw [Std.Commutative.comm (op := op)]; exact hl b a
  have key : ∀ t : Finset ι, t ⊆ s → R (f x) (t.fold op b f) ∧ ∀ y ∈ t, R (t.fold op b f) (f y) := by
    intro t
    induction t using Finset.induction_on with
    | empty => intro _; exact ⟨by rw [Finset.fold_empty]; exact hb, fun y hy => absurd hy (Finset.notMem_empty y)⟩
    | insert a t ha ih =>
      intro ht
      obtain ⟨h1, h2⟩ := ih fun y hy => ht (Finset.mem_insert_of_mem hy)
      rw [Finset.fold_insert ha]
      refine ⟨?_, fun y hy => ?_⟩
      · rcases hsel (f a) (t.fold op b f) with e | e
        · rw [e]; exact hall a (ht (Finset.mem_insert_self a t))
        · rw [e]; exact h1
      · rcases Finset.mem_insert.1 hy with rfl | hy
        · exact hl _ _
        · exact htr _ _ _ (hr _ _) (h2 y hy)
  obtain ⟨h1, h2⟩ := key s subset_rfl
  exact hanti _ _ (h2 x hx) h1

/-- The signed minimum of a family of words that a member attains. -/
theorem fold_minsi {ι : Type} [DecidableEq ι] (s : Finset ι) (b : BitVec 32) (f : ι → BitVec 32) (x : ι) (hx : x ∈ s)
    (hb : (f x).toInt ≤ b.toInt) (hall : ∀ y ∈ s, (f x).toInt ≤ (f y).toInt) : s.fold IntOp.minsi b f = f x :=
  fold_eq_of_below IntOp.minsi (fun a b => a.toInt ≤ b.toInt)
    (fun a b => by unfold IntOp.minsi; split <;> simp)
    (fun a b => by
      unfold IntOp.minsi; split
      · exact le_rfl
      · next h => simpa [BitVec.slt] using h)
    (fun _ _ _ => le_trans) (fun _ _ h₁ h₂ => BitVec.eq_of_toInt_eq (le_antisymm h₁ h₂)) s b f x hx hb hall

/-- The signed maximum likewise. -/
theorem fold_maxsi {ι : Type} [DecidableEq ι] (s : Finset ι) (b : BitVec 32) (f : ι → BitVec 32) (x : ι) (hx : x ∈ s)
    (hb : b.toInt ≤ (f x).toInt) (hall : ∀ y ∈ s, (f y).toInt ≤ (f x).toInt) : s.fold IntOp.maxsi b f = f x :=
  fold_eq_of_below IntOp.maxsi (fun a b => b.toInt ≤ a.toInt)
    (fun a b => by unfold IntOp.maxsi; split <;> simp)
    (fun a b => by
      unfold IntOp.maxsi; split
      · exact le_rfl
      · next h => simpa [BitVec.slt] using h)
    (fun _ _ _ h₁ h₂ => le_trans h₂ h₁) (fun _ _ h₁ h₂ => BitVec.eq_of_toInt_eq (le_antisymm h₂ h₁)) s b f x hx hb hall

theorem toInt_small {n : ℕ} (h : n < 2 ^ 31) : (BitVec.ofNat 32 n).toInt = n := by
  rw [BitVec.toInt_eq_toNat_cond, BitVec.toNat_ofNat]
  split <;> omega

theorem ofNat_inj_small {a b : ℕ} (ha : a < 2 ^ 32) (hb : b < 2 ^ 32) (h : BitVec.ofNat 32 a = BitVec.ofNat 32 b) : a = b := by
  have := congrArg BitVec.toNat h
  rwa [BitVec.toNat_ofNat, BitVec.toNat_ofNat, Nat.mod_eq_of_lt ha, Nat.mod_eq_of_lt hb] at this

end Cert.Crf

end
-- ==== Proof.KernelFirst.lean ====
/-
  The kernel's steps over the extended reals, entry by entry: the chunked forward scan finds the first largest candidate, the
  last step finds the first largest stop score, and the backward step looks the pointer up in its row of back pointers.
-/
module

public import proofs.«01_k».proof.Proof.KernelMath
public import proofs.«01_k».proof.Proof.First
public import Idealize.ShloMosaic.Lib.Pipeline.Value

@[expose] public section

noncomputable section

namespace Cert.KernelIdeal.Val

open Cert.KernelIdeal Cert.KernelIdeal.Gen Cert.Crf
open Idealize.ShloMosaic Idealize.ShloMosaic.ValueIdx

/-- The named constant over the extended reals. -/
theorem neg_eq : (Named.named (F := Ideal) (φ := .f32) κ "neg" 0xFF61B1E6#32 : EReal) = ⊥ := by
  simp [Named.named, κ]

theorem negInf_eq : (FloatOps.ofBits (F := Ideal) .f32 0xFF800000#32 : EReal) = ⊥ := by
  simp [Ideal.ofBits, Ideal.ieee]

variable (acc : FVec Ideal S52x128 .f32) (row : Vec Ideal S1x52x128 .f32) (L : Fin 52 → Vec Ideal S1x52x128 .f32)

/-- The candidate from previous tag `p`, at tag `c` and sequence `b`. -/
theorem cand_apply (p c : Fin 52) (b : Fin 128) :
    (cand acc row L p (ix2 c b) : EReal) = (row (ix3 0 c b) + L p (ix3 0 c b) : EReal) + (acc (ix2 p b) : EReal) := by
  unfold cand
  show ((shapeCast S52x128 row _ (ix2 c b) : EReal) + (shapeCast S52x128 (L p) _ (ix2 c b) : EReal))
    + (broadcastTo S52x128 (extractStridedSlice S1x128 ![p.val, 0] acc (rowSlices p)) _ (ix2 c b) : EReal) = _
  rw [shapeCast_1ab_ab_apply, shapeCast_1ab_ab_apply, broadcastTo_1b_ab_apply,
    slice2_axis0_apply p.val acc (rowSlices p) (0 : Fin 1) b p (by simp)]

/-- A chunk's scan finds the first largest candidate of the chunk. -/
theorem scan_holds (lo : ℕ) (j : S52x128.Idx) : ∀ n, lo + n ≤ 52 →
    Holds (fun p => cand acc row L p j) (fun p => lo ≤ p.val ∧ p.val < lo + n) ((scan acc row L lo n).1 j) ((scan acc row L lo n).2 j)
  | 0, _ => by
    refine ⟨0, ?_, rfl⟩
    show First _ _ (Named.named (F := Ideal) (φ := .f32) κ "neg" 0xFF61B1E6#32 : EReal) 0
    rw [neg_eq]
    exact First.empty fun p h => by omega
  | n + 1, hn => by
    have hp : (Fin.ofNat 52 (lo + n)).val = lo + n := Nat.mod_eq_of_lt (by omega)
    have h1 := scan_holds lo j n (by omega)
    have h2 : Holds (fun p => cand acc row L p j) (fun q => q = Fin.ofNat 52 (lo + n)) (cand acc row L (Fin.ofNat 52 (lo + n)) j)
        (BitVec.ofNat 32 (lo + n)) := ⟨Fin.ofNat 52 (lo + n), First.single _, by rw [hp]⟩
    refine (h1.merge h2 fun p q hp' hq => ?_).congr fun p => ?_
    · subst hq; rw [Fin.lt_def, hp]; omega
    · rw [Fin.ext_iff, hp]; omega

/-- The forward trip finds the first largest candidate over all previous tags. -/
theorem fwdStep_holds (j : S52x128.Idx) :
    Holds (fun p => cand acc row L p j) (fun _ => True) ((fwdStep acc row L).1 j) ((fwdStep acc row L).2 j) := by
  have h0 := scan_holds acc row L 0 j 13 (by omega)
  have h1 := scan_holds acc row L 13 j 13 (by omega)
  have h2 := scan_holds acc row L 26 j 13 (by omega)
  have h3 := scan_holds acc row L 39 j 13 (by omega)
  have h01 := h0.merge h1 fun p q hp hq => by rw [Fin.lt_def]; omega
  have h23 := h2.merge h3 fun p q hp hq => by rw [Fin.lt_def]; omega
  refine (h01.merge h23 fun p q hp hq => ?_).congr fun p => ?_
  · rw [Fin.lt_def]; omega
  · have := p.isLt; exact ⟨fun _ => trivial, fun _ => by omega⟩

theorem pay1_apply (v0 v2 : Vec Ideal S1x52x128 .f32) (c : Fin 52) (b : Fin 128) :
    (k0_pay1 v0 v2 (ix2 c b) : EReal) = (v0 (ix3 0 c b) + v2 (ix3 0 c b) : EReal) := by
  unfold k0_pay1
  show ((shapeCast S52x128 v0 _ (ix2 c b) : EReal) + (shapeCast S52x128 v2 _ (ix2 c b) : EReal)) = _
  rw [shapeCast_1ab_ab_apply, shapeCast_1ab_ab_apply]

/-- The index over column `b` with row `p`. -/
theorem lift_eq (b : Fin 128) (p : Fin 52) : reduces_S52x128_S128.lift (ix1 b) p = ix2 p b := by
  funext a
  refine Fin.ext ?_
  fin_cases a <;> rfl

theorem colB_apply (v7 : Vec Ideal S52x1 .f32) (c : Fin 52) (b : Fin 128) :
    broadcastTo S52x128 v7 broadcasts_S52x1_S52x128 (ix2 c b) = v7 (ix2 c 0) :=
  broadcastTo_apply v7 _ (ix2 c b) (ix2 c (0 : Fin 1)) fun a => by fin_cases a <;> rfl

/-- A float maximum down the rows is the fold over the column. -/
theorem colMax_apply (v : FVec Ideal S52x128 .f32) (hφ : FKind.Formats .f32) (hacc : 0xFF800000#32 = FKind.maximumf.neutral .f32 hφ) (b : Fin 128) :
    (multiReduction .maximumf [0] S128 v 0xFF800000#32 reduces_S52x128_S128 hφ hacc (ix1 b) : EReal)
      = (Finset.univ : Finset (Fin 52)).fold max ⊥ fun p => (v (ix2 p b) : EReal) := by
  refine (multiReduction_maximumf_eq_fold _ _ _ _ _ _).trans ((Shape.Reduces.fold_filter_drop_single _ _ _ _ _).trans ?_)
  rw [negInf_eq]
  exact congrArg (Finset.fold max (⊥ : EReal) · Finset.univ) (funext fun p => congrArg v (lift_eq b p))

/-- An integer reduction down the rows likewise. -/
theorem colInt_apply (kind : IKind) (v : IVec S52x128 32) (z : BitVec 32) (hacc : z = kind.neutral) (b : Fin 128) :
    multiReductionI kind [0] S128 v z reduces_S52x128_S128 hacc (ix1 b) = (Finset.univ : Finset (Fin 52)).fold kind.op z fun p => v (ix2 p b) := by
  refine (multiReductionI_eq_fold _ _ _ _ _ _).trans ((Shape.Reduces.fold_filter_drop_single _ _ _ _ _).trans ?_)
  exact congrArg (Finset.fold kind.op z · Finset.univ) (funext fun p => congrArg v (lift_eq b p))

/-- The last pointer is the first largest stop score. -/
theorem pay2_first (v6 : FVec Ideal S52x128 .f32) (v7 : Vec Ideal S52x1 .f32) (b : Fin 128) (m : EReal) (i : Fin 52)
    (h : First (fun p => (v6 (ix2 p b) + v7 (ix2 p 0) : EReal)) (fun _ => True) m i) :
    k0_pay2 v6 v7 (ix2 0 b) = BitVec.ofNat 32 i.val := by
  unfold k0_pay2
  dsimp only
  have h9 : ∀ p : Fin 52, (addf v6 (broadcastTo S52x128 v7 broadcasts_S52x1_S52x128) (ix2 p b) : EReal) = v6 (ix2 p b) + v7 (ix2 p 0) := fun p => by
    show (v6 (ix2 p b) + broadcastTo S52x128 v7 _ (ix2 p b) : EReal) = _
    rw [colB_apply]
  generalize addf v6 (broadcastTo S52x128 v7 broadcasts_S52x1_S52x128) = v9 at h9 ⊢
  have hm : (multiReduction .maximumf [0] S128 v9 0xFF800000#32 reduces_S52x128_S128 (.inl rfl) rfl (ix1 b) : EReal) = m := by
    refine (colMax_apply v9 _ _ b).trans ?_
    rw [funext h9]
    exact h.fold
  revert hm
  generalize multiReduction .maximumf [0] S128 v9 0xFF800000#32 reduces_S52x128_S128 (.inl rfl) rfl = M
  intro hm
  rw [shapeCast_a_1a_apply]
  refine (colInt_apply .minsi _ _ _ b).trans ?_
  set f : Fin 52 → BitVec 32 := fun p => if (v6 (ix2 p b) + v7 (ix2 p 0) : EReal) = m then BitVec.ofNat 32 p.val else 52#32 with hf
  refine (congrArg (Finset.fold IntOp.minsi 2147483647#32 · Finset.univ) (show _ = f from funext fun p => ?_)).trans ?_
  · show Scalar.select (Ideal.cmp .oeq (v9 (ix2 p b)) (broadcastTo S52x128 (shapeCast S1x128 M _) broadcasts_S1x128_S52x128 (ix2 p b)))
      (iota .tc S52x128 32 [0] iota_S52x128_d0_w32 (ix2 p b)) 52#32 = f p
    rw [broadcastTo_1b_ab_apply, shapeCast_a_1a_apply, hm, h9, iota_single_apply]
    unfold Scalar.select
    rw [hf]
    exact if_congr (oeq_iff _ _) rfl rfl
  have hi : f i = BitVec.ofNat 32 i.val := if_pos h.attained
  have hiv := i.isLt
  rw [← hi]
  refine fold_minsi _ _ f i (Finset.mem_univ i) ?_ fun p _ => ?_
  · rw [hi, toInt_small (by omega)]
    show (i.val : ℤ) ≤ (2147483647#32).toInt
    rw [show (2147483647#32).toInt = 2147483647 from by decide]; omega
  · rw [hi, toInt_small (by omega)]
    have hpv := p.isLt
    by_cases hp : (v6 (ix2 p b) + v7 (ix2 p 0) : EReal) = m
    · rw [show f p = BitVec.ofNat 32 p.val from if_pos hp, toInt_small (by omega)]
      exact_mod_cast h.least p trivial hp
    · rw [show f p = 52#32 from if_neg hp, show (52#32).toInt = 52 from by decide]; omega

/-- The backward step reads the pointer's entry of the row of back pointers. -/
theorem pay4_apply (ptr : IVec S1x128 32) (v26 : Vec Ideal S1x52x128 .i32) (b : Fin 128) (i q : Fin 52)
    (hi : ptr (ix2 0 b) = BitVec.ofNat 32 i.val) (hq : v26 (ix3 0 i b) = BitVec.ofNat 32 q.val) :
    k0_pay4 (F := Ideal) ptr v26 (ix2 0 b) = BitVec.ofNat 32 q.val := by
  unfold k0_pay4
  dsimp only
  rw [shapeCast_a_1a_apply]
  refine (colInt_apply .maxsi _ _ _ b).trans ?_
  set f : Fin 52 → BitVec 32 := fun p => if p = i then BitVec.ofNat 32 q.val else 0#32 with hf
  refine (congrArg (Finset.fold IntOp.maxsi 2147483648#32 · Finset.univ) (show _ = f from funext fun p => ?_)).trans ?_
  · show Scalar.select (IntOp.cmpi .eq (iota .tc S52x128 32 [0] iota_S52x128_d0_w32 (ix2 p b)) (broadcastTo S52x128 ptr broadcasts_S1x128_S52x128 (ix2 p b)))
      (shapeCast S52x128 v26 shapeCasts_S1x52x128_S52x128 (ix2 p b)) 0#32 = f p
    rw [broadcastTo_1b_ab_apply, shapeCast_1ab_ab_apply, hi, iota_single_apply]
    unfold Scalar.select IntOp.cmpi
    have hpv := p.isLt
    have hiv := i.isLt
    rw [hf]
    by_cases hp : p = i
    · subst hp; simp [hq]
    · have hne : BitVec.ofNat 32 p.val ≠ BitVec.ofNat 32 i.val := fun e => hp (Fin.ext (ofNat_inj_small (by omega) (by omega) e))
      show (if BitVec.ofBool (BitVec.ofNat 32 p.val == BitVec.ofNat 32 i.val) = 1 then _ else _) = _
      rw [beq_false_of_ne hne]
      simp [hp]
  have hi' : f i = BitVec.ofNat 32 q.val := if_pos rfl
  have hqv := q.isLt
  rw [← hi']
  refine fold_maxsi _ _ f i (Finset.mem_univ i) ?_ fun p _ => ?_
  · rw [hi', toInt_small (n := q.val) (by omega)]
    show (2147483648#32).toInt ≤ (q.val : ℤ)
    rw [show (2147483648#32).toInt = -2147483648 from by decide]; omega
  · rw [hi', toInt_small (by omega)]
    by_cases hp : p = i
    · rw [hp, hi', toInt_small (by omega)]
    · rw [show f p = 0#32 from if_neg hp, show (0#32).toInt = 0 from by decide]; omega

end Cert.KernelIdeal.Val

end
-- ==== Proof.RefMath.lean ====
/-
  The reference's operations over one row, entry by entry: its arg-max finds the first largest score, a row read or written
  at a counter, a lookup along an axis, and the write that reaches only the last row.
-/
module

public import proofs.«01_k».proof.Proof.RefOps
public import proofs.«01_k».proof.Proof.First
public import Idealize.ShloMosaic.Lib.ValueLayout
public import Idealize.ShloMosaic.Lib.Pipeline.Value
public import Idealize.ShloMosaic.Lib.DynamicIndex
public import Idealize.ShloMosaic.Lib.ReduceAll

@[expose] public section

noncomputable section

namespace Cert.ReferenceIdeal.Ops

open Cert.ReferenceIdeal Cert.ReferenceIdeal.Gen Cert.Crf
open Idealize.ShloMosaic Idealize.ShloMosaic.ValueIdx

/-! ## The arg-max -/

/-- One step of the arg-max: the larger value, on equal values the smaller index. -/
theorem reducer_apply (m v : EReal) (i p : Fin 52) :
    reducer_argmax_f32_i32 (F := Ideal) (m, BitVec.ofNat 32 i.val) (v, BitVec.ofNat 32 p.val)
      = (max m v, BitVec.ofNat 32 (if v < m ∨ (m = v ∧ i < p) then i else p).val) := by
  have hi := i.isLt
  have hp := p.isLt
  have e1 : (FloatOps.cmpf (F := Ideal) (φ := .f32) .ogt m v : BitVec 1) = if v < m then 1#1 else 0#1 := by
    show BitVec.ofBool (decide (v < m)) = _
    by_cases h : v < m <;> simp [h]
  have e2 : (FloatOps.cmpf (F := Ideal) (φ := .f32) .une m m : BitVec 1) = 0#1 := by
    show BitVec.ofBool (decide (m ≠ m)) = _
    simp
  have e3 : (FloatOps.cmpf (F := Ideal) (φ := .f32) .oeq m v : BitVec 1) = if m = v then 1#1 else 0#1 := by
    show BitVec.ofBool (decide (m = v)) = _
    by_cases h : m = v <;> simp [h]
  have e4 : IntOp.cmpi .slt (BitVec.ofNat 32 i.val) (BitVec.ofNat 32 p.val) = if i < p then 1#1 else 0#1 := by
    show BitVec.ofBool ((BitVec.ofNat 32 i.val).slt (BitVec.ofNat 32 p.val)) = _
    rw [BitVec.slt, toInt_small (by omega), toInt_small (by omega)]
    by_cases h : i < p
    · have h' : (i.val : ℤ) < p.val := by exact_mod_cast h
      simp [h, h']
    · have h' : ¬ (i.val : ℤ) < p.val := by exact_mod_cast h
      simp [h, h']
  unfold reducer_argmax_f32_i32
  dsimp only
  rw [e1, e2, e3, e4]
  unfold Scalar.select IntOp.ori IntOp.andi
  by_cases h1 : v < m
  · have e : ∀ w : BitVec 1, (1#1 ||| w) = 1#1 := by decide
    simp [h1, max_eq_left h1.le, e]
  · have hm : max m v = v := max_eq_right (not_lt.1 h1)
    by_cases h3 : m = v
    · by_cases h4 : i < p <;> simp [h3, h4]
    · simp [h1, h3, hm]

/-- The fold of the step over any list of entries. -/
theorem foldl_holds (g : Fin 52 → EReal) {ι : Type} (q : ι → Fin 52) (a : ι → EReal) (w : ι → BitVec 32) :
    ∀ (L : List ι) (S : Fin 52 → Prop) (m : EReal) (i : Fin 52), First g S m i →
      (∀ n ∈ L, a n = g (q n) ∧ w n = BitVec.ofNat 32 (q n).val) →
      Holds g (fun p => S p ∨ ∃ n ∈ L, q n = p)
        (L.foldl (fun r n => reducer_argmax_f32_i32 (F := Ideal) r (a n, w n)) (m, BitVec.ofNat 32 i.val)).1
        (L.foldl (fun r n => reducer_argmax_f32_i32 (F := Ideal) r (a n, w n)) (m, BitVec.ofNat 32 i.val)).2
  | [], S, m, i, h, _ => Holds.congr ⟨i, h, rfl⟩ fun p => by simp
  | n :: L, S, m, i, h, hL => by
    obtain ⟨ha, hw⟩ := hL n List.mem_cons_self
    simp only [List.foldl_cons]
    rw [ha, hw, reducer_apply]
    refine (foldl_holds g q a w L _ _ _ (h.add (q n)) fun k hk => hL k (List.mem_cons_of_mem _ hk)).congr fun p => ?_
    constructor
    · rintro ((h | h) | ⟨k, hk, h⟩)
      · exact .inl h
      · exact .inr ⟨n, List.mem_cons_self, h.symm⟩
      · exact .inr ⟨k, List.mem_cons_of_mem _ hk, h⟩
    · rintro (h | ⟨k, hk, h⟩)
      · exact .inl (.inl h)
      · rcases List.mem_cons.1 hk with rfl | hk
        · exact .inl (.inr h.symm)
        · exact .inr ⟨k, hk, h⟩

theorem negInf_eq : (FloatOps.ofBits (F := Ideal) .f32 0xFF800000#32 : EReal) = ⊥ := by
  simp [Ideal.ofBits, Ideal.ieee]

/-- An index over the kept coordinates `b` and `c`. -/
theorem drop_iff (i : S128x52x52.Idx) (b : Fin 128) (c : Fin 52) :
    reducesTo_S128x52x52_S128x52_d1.drop i = ix2 b c ↔ i = ix3 b (i 1) c := by
  have h0 : (reducesTo_S128x52x52_S128x52_d1.drop i 0 : ℕ) = i 0 := Shape.ReducesTo.drop_apply_val_of_eq _ _ 0 0
  have h1 : (reducesTo_S128x52x52_S128x52_d1.drop i 1 : ℕ) = i 2 := Shape.ReducesTo.drop_apply_val_of_eq _ _ 1 2
  constructor
  · intro h
    rw [h] at h0 h1
    funext a
    refine Fin.ext ?_
    fin_cases a
    · exact h0.symm
    · rfl
    · exact h1.symm
  · intro h
    funext a
    refine Fin.ext ?_
    fin_cases a
    · refine h0.trans ?_; rw [h]
    · refine h1.trans ?_; rw [h]

/-- The arg-max along the middle axis finds the first largest entry. -/
theorem argmax_holds (x : FVec Ideal S128x52x52 .f32) (b : Fin 128) (c : Fin 52) :
    Holds (fun p => x (ix3 b p c)) (fun _ => True)
      (Host.argReduce (reducer_argmax_f32_i32 (F := Ideal)) x (iotaInDim S128x52x52 32 1) (constant S_ .f32 0xFF800000#32) (constantI S_ 32 0#32)
        reducesTo_S128x52x52_S128x52_d1 h_S_ (ix2 b c)).1
      (Host.argReduce (reducer_argmax_f32_i32 (F := Ideal)) x (iotaInDim S128x52x52 32 1) (constant S_ .f32 0xFF800000#32) (constantI S_ 32 0#32)
        reducesTo_S128x52x52_S128x52_d1 h_S_ (ix2 b c)).2 := by
  rw [Ideal.argReduce_eq_reduce2]
  unfold Host.reduce2
  have hz : ((constant S_ .f32 0xFF800000#32 : FVec Ideal S_ .f32) (Shape.Idx.first h_S_), (constantI S_ 32 0#32) (Shape.Idx.first h_S_))
      = ((⊥ : EReal), BitVec.ofNat 32 (0 : Fin 52).val) := Prod.ext negInf_eq rfl
  rw [hz]
  refine (foldl_holds (fun p => x (ix3 b p c)) (fun n => (S128x52x52.rowMajor.symm n) 1) (fun n => x (S128x52x52.rowMajor.symm n))
    (fun n => iotaInDim S128x52x52 32 1 (S128x52x52.rowMajor.symm n)) _ (fun _ => False) ⊥ 0 (First.empty fun _ h => h) ?_).congr ?_
  · intro n hn
    have h := (drop_iff _ b c).1 (of_decide_eq_true (List.mem_filter.1 hn).2)
    exact ⟨congrArg x h, rfl⟩
  · intro p
    refine ⟨fun _ => trivial, fun _ => .inr ⟨S128x52x52.rowMajor (ix3 b p c), ?_, ?_⟩⟩
    · refine List.mem_filter.2 ⟨List.mem_finRange _, decide_eq_true ?_⟩
      rw [Equiv.symm_apply_apply]
      exact (drop_iff _ b c).2 rfl
    · show (S128x52x52.rowMajor.symm (S128x52x52.rowMajor (ix3 b p c))) 1 = p
      rw [Equiv.symm_apply_apply]

/-- The maximum along the middle axis is the value that the arg-max finds. -/
theorem rowmax_eq (x : FVec Ideal S128x52x52 .f32) (b : Fin 128) (c : Fin 52) (m : EReal) (i : Fin 52)
    (h : First (fun p => x (ix3 b p c)) (fun _ => True) m i) :
    (Host.reduce (FloatOps.maximumf (F := Ideal) (φ := .f32)) x (constant (F := Ideal) S_ .f32 0xFF800000#32) reducesTo_S128x52x52_S128x52_d1 h_S_ (ix2 b c) : EReal) = m := by
  show Host.reduce (max : EReal → EReal → EReal) x (constant (F := Ideal) S_ .f32 0xFF800000#32) reducesTo_S128x52x52_S128x52_d1 h_S_ (ix2 b c) = m
  rw [Host.reduce_eq_fold]
  rw [show ((constant S_ .f32 0xFF800000#32 : FVec Ideal S_ .f32) (Shape.Idx.first h_S_) : EReal) = ⊥ from negInf_eq]
  refine le_antisymm ((Finset.fold_max_le _).2 ⟨bot_le, fun j hj => ?_⟩) ((Finset.le_fold_max _).2 (.inr ⟨ix3 b i c, ?_, h.attained.ge⟩))
  · rw [(drop_iff j b c).1 (Finset.mem_filter.1 hj).2]
    exact h.le (j 1) trivial
  · exact Finset.mem_filter.2 ⟨Finset.mem_univ _, (drop_iff _ b c).2 rfl⟩

/-! ## Rows at a counter -/

variable {α : Type}

theorem dynRow3 (x : S511x128x52.Idx → α) (st : Fin 3 → ℤ) (k : Fin 511) (h0 : st 0 = k.val) (h1 : st 1 = 0) (h2 : st 2 = 0) (b : Fin 128) (t : Fin 52) :
    Host.dynamicSlice S1x128x52 x st sliceFits_S511x128x52_S1x128x52 (ix3 0 b t) = x (ix3 k b t) := by
  have hk := k.isLt
  unfold Host.dynamicSlice extractStridedSlice
  refine congrArg x (funext fun a => Fin.ext ?_)
  fin_cases a
  · show (min (max (st 0) 0) ((511 - 1 : ℕ) : ℤ)).toNat + 0 = k.val
    rw [h0]; omega
  · show (min (max (st 1) 0) ((128 - 128 : ℕ) : ℤ)).toNat + b.val = b.val
    rw [h1]; omega
  · show (min (max (st 2) 0) ((52 - 52 : ℕ) : ℤ)).toNat + t.val = t.val
    rw [h2]; omega

theorem dynRow2 (x : S511x128.Idx → α) (st : Fin 2 → ℤ) (k : Fin 511) (h0 : st 0 = k.val) (h1 : st 1 = 0) (b : Fin 128) :
    Host.dynamicSlice S1x128 x st sliceFits_S511x128_S1x128 (ix2 0 b) = x (ix2 k b) := by
  have hk := k.isLt
  unfold Host.dynamicSlice extractStridedSlice
  refine congrArg x (funext fun a => Fin.ext ?_)
  fin_cases a
  · show (min (max (st 0) 0) ((511 - 1 : ℕ) : ℤ)).toNat + 0 = k.val
    rw [h0]; omega
  · show (min (max (st 1) 0) ((128 - 128 : ℕ) : ℤ)).toNat + b.val = b.val
    rw [h1]; omega

theorem putRow3 (x : S511x128x52.Idx → α) (u : S1x128x52.Idx → α) (st : Fin 3 → ℤ) (k : Fin 511) (h0 : st 0 = k.val) (h1 : st 1 = 0) (h2 : st 2 = 0)
    (r : Fin 511) (b : Fin 128) (t : Fin 52) :
    Host.dynamicUpdateSlice x u st updateFits_S511x128x52_S1x128x52 (ix3 r b t) = if r = k then u (ix3 0 b t) else x (ix3 r b t) := by
  have hk := k.isLt
  have hf : S511x128x52.Slices ![k.val, 0, 0] S1x128x52 := ⟨rfl, fun a => by
    fin_cases a
    · show k.val + 1 ≤ 511; omega
    · show 0 + 128 ≤ 128; omega
    · show 0 + 52 ≤ 52; omega⟩
  rw [Host.dynamicUpdateSlice_eq_updateSlice x u st updateFits_S511x128x52_S1x128x52 ![k.val, 0, 0] (fun a => by
    fin_cases a
    · show (min (max (st 0) 0) ((511 - 1 : ℕ) : ℤ)).toNat = k.val
      rw [h0]; omega
    · show (min (max (st 1) 0) ((128 - 128 : ℕ) : ℤ)).toNat = 0
      rw [h1]; omega
    · show (min (max (st 2) 0) ((52 - 52 : ℕ) : ℤ)).toNat = 0
      rw [h2]; omega) hf]
  unfold updateSlice
  by_cases h : r = k
  · subst h
    rw [if_pos rfl, dif_pos (fun a => by
      fin_cases a
      · show r.val ≤ r.val ∧ r.val < r.val + 1; omega
      · show 0 ≤ b.val ∧ b.val < 0 + 128; omega
      · show 0 ≤ t.val ∧ t.val < 0 + 52; omega)]
    refine congrArg u (funext fun a => Fin.ext ?_)
    fin_cases a
    · show r.val - r.val = 0; omega
    · rfl
    · rfl
  · rw [if_neg h, dif_neg (fun hin => h (Fin.ext (by
      have : k.val ≤ r.val ∧ r.val < k.val + 1 := hin 0
      omega)))]

theorem putRow2 (x : S511x128.Idx → α) (u : S1x128.Idx → α) (st : Fin 2 → ℤ) (k : Fin 511) (h0 : st 0 = k.val) (h1 : st 1 = 0)
    (r : Fin 511) (b : Fin 128) :
    Host.dynamicUpdateSlice x u st updateFits_S511x128_S1x128 (ix2 r b) = if r = k then u (ix2 0 b) else x (ix2 r b) := by
  have hk := k.isLt
  have hf : S511x128.Slices ![k.val, 0] S1x128 := ⟨rfl, fun a => by
    fin_cases a
    · show k.val + 1 ≤ 511; omega
    · show 0 + 128 ≤ 128; omega⟩
  rw [Host.dynamicUpdateSlice_eq_updateSlice x u st updateFits_S511x128_S1x128 ![k.val, 0] (fun a => by
    fin_cases a
    · show (min (max (st 0) 0) ((511 - 1 : ℕ) : ℤ)).toNat = k.val
      rw [h0]; omega
    · show (min (max (st 1) 0) ((128 - 128 : ℕ) : ℤ)).toNat = 0
      rw [h1]; omega) hf]
  unfold updateSlice
  by_cases h : r = k
  · subst h
    rw [if_pos rfl, dif_pos (fun a => by
      fin_cases a
      · show r.val ≤ r.val ∧ r.val < r.val + 1; omega
      · show 0 ≤ b.val ∧ b.val < 0 + 128; omega)]
    refine congrArg u (funext fun a => Fin.ext ?_)
    fin_cases a
    · show r.val - r.val = 0; omega
    · rfl
  · rw [if_neg h, dif_neg (fun hin => h (Fin.ext (by
      have : k.val ≤ r.val ∧ r.val < k.val + 1 := hin 0
      omega)))]

end Cert.ReferenceIdeal.Ops

end
-- ==== Proof.RefLookup.lean ====
/-
  The reference's lookups along an axis at an index in range, and its write of one row per sequence, which leaves every other row.
-/
module

public import proofs.«01_k».proof.Proof.RefMath

@[expose] public section

noncomputable section

namespace Cert.ReferenceIdeal.Ops

open Cert.ReferenceIdeal Cert.ReferenceIdeal.Gen Cert.Crf
open Idealize.ShloMosaic Idealize.ShloMosaic.ValueIdx

variable {α : Type}

local notation "gT" => gather_S128x512x52_S128x1x52x1_S128x1x52_n_1_02_02_1_3_111
local notation "gP" => gather_S128x52_S128x1x1_S128x1_n_1_0_0_1_2_11
local notation "sC" => scatter_S128x512x52_S128x2_S128x52_1_01_01_1

/-- The lookup along time: sequence `b` and tag `t` at the time that the index names. -/
theorem gatherT_apply (x : S128x512x52.Idx → α) (idx : IVec S128x1x52x1 32) (b : Fin 128) (t : Fin 52) (r : Fin 512)
    (hr : (idx (ix4 b 0 t 0)).toInt = r.val) : Host.gather gT x idx (ix3 b 0 t) = x (ix3 b r t) := by
  unfold Host.gather
  refine congrArg x (funext fun a => Fin.ext ?_)
  show (gT).start (ix3 b 0 t) idx a + (gT).batchCoord (ix3 b 0 t) a + (gT).offCoord (ix3 b 0 t) a = _
  have hrl := r.isLt
  have h : a = 0 ∨ a = 1 ∨ a = 2 := by
    match a with
    | ⟨0, _⟩ => exact .inl rfl
    | ⟨1, _⟩ => exact .inr (.inl rfl)
    | ⟨2, _⟩ => exact .inr (.inr rfl)
  rcases h with rfl | rfl | rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (show (1 : Fin 3) ∈ (gT).startIndexMap from by decide)]
    have hsi : (gT).siIdx (ix3 b 0 t) ⟨List.idxOf (1 : Fin 3) (gT).startIndexMap, List.idxOf_lt_length_iff.2 (by decide)⟩ = ix4 b 0 t 0 := by
      funext c; refine Fin.ext ?_
      match c with
      | ⟨0, _⟩ => rfl
      | ⟨1, _⟩ => rfl
      | ⟨2, _⟩ => rfl
      | ⟨3, _⟩ => rfl
    rw [hsi, hr]
    show min ((r.val : ℤ).toNat) (512 - 1) = r.val
    omega
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    rfl

/-- The lookup along the tags: sequence `b` at the tag that the pointer names. -/
theorem gatherP_apply (x : S128x52.Idx → α) (idx : IVec S128x1x1 32) (b : Fin 128) (p : Fin 52)
    (hp : (idx (ix3 b 0 0)).toInt = p.val) : Host.gather gP x idx (ix2 b 0) = x (ix2 b p) := by
  unfold Host.gather
  refine congrArg x (funext fun a => Fin.ext ?_)
  show (gP).start (ix2 b 0) idx a + (gP).batchCoord (ix2 b 0) a + (gP).offCoord (ix2 b 0) a = _
  have hpl := p.isLt
  have h : a = 0 ∨ a = 1 := by
    match a with
    | ⟨0, _⟩ => exact .inl rfl
    | ⟨1, _⟩ => exact .inr rfl
  rcases h with rfl | rfl
  · rw [GatherDims.start_batching _ _ _ _ (by decide), GatherDims.offCoord_eq_zero _ _ _ (fun h => ((GatherDims.mem_sKept _ _).mp h).2 (by decide))]
    simp only [Nat.zero_add, Nat.add_zero]
    unfold GatherDims.batchCoord
    rw [dif_pos (by decide)]
    rfl
  · rw [GatherDims.batchCoord_eq_zero _ _ _ (by decide), GatherDims.offCoord_eq_zero _ _ _ (fun h => ((GatherDims.mem_sKept _ _).mp h).1 (by decide))]
    simp only [Nat.add_zero]
    unfold GatherDims.start
    rw [dif_pos (show (1 : Fin 2) ∈ (gP).startIndexMap from by decide)]
    have hsi : (gP).siIdx (ix2 b 0) ⟨List.idxOf (1 : Fin 2) (gP).startIndexMap, List.idxOf_lt_length_iff.2 (by decide)⟩ = ix3 b 0 0 := by
      funext c; refine Fin.ext ?_
      match c with
      | ⟨0, _⟩ => rfl
      | ⟨1, _⟩ => rfl
      | ⟨2, _⟩ => rfl
    rw [hsi, hp]
    show min ((p.val : ℤ).toNat) (52 - 1) = p.val
    omega

/-- An update lands at the row that its index names. -/
theorem scatter_row (idx : IVec S128x2 32) (hidx : ∀ b : Fin 128, (idx (ix2 b 1)).toInt = 511) (j : S128x52.Idx) (i : S128x512x52.Idx)
    (h : (sC).resultIdx? j idx = some i) : (i 1).val = 511 := by
  unfold ScatterDims.resultIdx? at h
  split at h
  · next hin =>
    have hi := Option.some.inj h
    subst hi
    show ((sC).start j idx 1 + (sC).window j 1).toNat = 511
    have hw : (sC).window j 1 = 0 := by
      unfold ScatterDims.window
      rw [dif_neg (by decide)]
    rw [hw]
    unfold ScatterDims.start
    rw [dif_pos (show (1 : Fin 3) ∈ (sC).scatterDimsToOperandDims from by decide)]
    have hsi : (sC).siIdx j ⟨List.idxOf (1 : Fin 3) (sC).scatterDimsToOperandDims, List.idxOf_lt_length_iff.2 (by decide)⟩ = ix2 (j 0) 1 := by
      funext c; refine Fin.ext ?_
      match c with
      | ⟨0, _⟩ => rfl
      | ⟨1, _⟩ => rfl
    rw [(congrArg (fun z => (idx z).toInt) hsi).trans (hidx (j 0))]
    rfl
  · exact absurd h (by simp)

/-- What every step keeps, the fold keeps. -/
theorem foldl_keeps {β ι : Type} (P : β → Prop) (step : β → ι → β) (h : ∀ r n, P r → P (step r n)) :
    ∀ (L : List ι) (y : β), P y → P (L.foldl step y)
  | [], _, hy => hy
  | n :: L, y, hy => foldl_keeps P step h L (step y n) (h y n hy)

/-- The write of the last row leaves every other row. -/
theorem scatter_keep (f : α → α → α) (x : S128x512x52.Idx → α) (idx : IVec S128x2 32) (u : S128x52.Idx → α) (hidx : ∀ b : Fin 128, (idx (ix2 b 1)).toInt = 511)
    (i : S128x512x52.Idx) (hi : (i 1).val ≠ 511) : Host.scatter sC f x idx u i = x i := by
  unfold Host.scatter
  refine foldl_keeps (fun r => r i = x i) _ (fun r n hr => ?_) _ x rfl
  cases hk : (sC).resultIdx? (S128x52.rowMajor.symm n) idx with
  | some k => exact (if_neg fun e => hi ((congrArg (fun z : S128x512x52.Idx => (z 1).val) e).trans (scatter_row idx hidx _ _ hk))).trans hr
  | none => exact hr

end Cert.ReferenceIdeal.Ops

end
-- ==== Proof.RefForward.lean ====
/-
  One trip of the reference's forward loop, entry by entry: the new partition and the row of back pointers hold the first
  largest candidates, and the other rows stay.
-/
module

public import proofs.«01_k».proof.Proof.RefFrame
public import proofs.«01_k».proof.Proof.RefLookup

@[expose] public section

set_option maxRecDepth 8192

noncomputable section

namespace Cert.ReferenceIdeal.Ops

open Cert.ReferenceIdeal Cert.ReferenceIdeal.Gen Cert.Crf
open Idealize.ShloMosaic Idealize.ShloMosaic.TcCoe Idealize.ShloMosaic.StableHlo Idealize.ShloMosaic.ValueIdx

theorem iv_eq (k : ℕ) : Scf.iv 0#32 1#32 k = BitVec.ofNat 32 k := by simp [Scf.iv]

section Reads

variable {F : FTy → Type} [FloatOps F]
variable (X : Valuation τ sig (Elt F))

/-- The emissions of time steps 1 to 511. -/
abbrev rdFeats : FVec F S511x128x52 .f32 := X (Proc.devRef .tc main_v14_0)
/-- The mask of the same steps. -/
abbrev rdMask : FVec F S511x128 .f32 := X (Proc.devRef .tc main_v14_1)
/-- The transitions the loop carries. -/
abbrev rdTrans : FVec F S52x52 .f32 := X (Proc.devRef .tc main_v14_2)
/-- The counter. -/
abbrev rdCtr : IVec S_ 32 := X (Proc.devRef .tc main_v14_3)
/-- The partition. -/
abbrev rdPart : FVec F S128x52 .f32 := X (Proc.devRef .tc main_v14_4)
/-- The partitions kept so far. -/
abbrev rdParts : FVec F S511x128x52 .f32 := X (Proc.devRef .tc main_v14_5)
/-- The back pointers kept so far. -/
abbrev rdBps : IVec S511x128x52 32 := X (Proc.devRef .tc main_v14_6)
abbrev rd61 : FVec F S128x52 .f32 := X (Proc.devRef .tc main_while0b_v61)
abbrev rd62 : FVec F S128 .f32 := X (Proc.devRef .tc main_while0b_v62)
abbrev rd70 : FVec F S128x52x52 .f32 := X (Proc.devRef .tc main_while0b_v70)
abbrev rd71 : FVec F S128x52 .f32 := X (Proc.devRef .tc main_while0b_v71)
abbrev rd72 : IVec S128x52 32 := X (Proc.devRef .tc main_while0b_v72)
abbrev rd75 : IVec S128x1 1 := X (Proc.devRef .tc main_while0b_v75)
abbrev rdC18 : IVec S_ 32 := X (Proc.devRef .tc main_while0b_c_18)
abbrev rd76 : IVec S128x52 32 := X (Proc.devRef .tc main_while0b_v76)
abbrev rd77 : FVec F S511x128x52 .f32 := X (Proc.devRef .tc main_while0b_v77)
abbrev rd78 : IVec S511x128x52 32 := X (Proc.devRef .tc main_while0b_v78)

variable {X} {k : Fin 511}

theorem toInt_ctr (hc : rdCtr X = fun _ => BitVec.ofNat 32 k.val) (j : S_.Idx) : (rdCtr X j).toInt = k.val := by
  rw [hc]
  have := k.isLt
  exact toInt_small (by omega)

theorem fwd0_at (hc : rdCtr X = fun _ => BitVec.ofNat 32 k.val) (b : Fin 128) (t : Fin 52) :
    rd61 (after fwd0 X) (ix2 b t) = rdFeats X (ix3 k b t) := by
  have e0 : rdCtr (after (fwd0.take 2) X) = rdCtr X := by
    show after (fwd0.take 2) X (Proc.devRef .tc main_v14_3) = X (Proc.devRef .tc main_v14_3)
    exact after_unwritten [main_while0b_call0_c, main_while0b_call0_c_0] rfl (by decide +kernel) X
  have e1 : (after (fwd0.take 2) X (Proc.devRef .tc main_while0b_call0_c) : IVec S_ 32) = constantI S_ 32 0#32 := by
    show after [_, _] X _ = _
    after_results; rfl
  have e2 : (after (fwd0.take 2) X (Proc.devRef .tc main_while0b_call0_c_0) : IVec S_ 32) = constantI S_ 32 0#32 := by
    show after [_, _] X _ = _
    after_results; rfl
  show (after fwd0 X (Proc.devRef .tc main_while0b_v61) : FVec F S128x52 .f32) (ix2 b t) = _
  after_results
  refine (shapeCast_1ab_ab_apply _ _ _ _).trans (dynRow3 _ _ k ?_ ?_ ?_ b t)
  · exact (congrArg (fun z : IVec S_ 32 => (z (Shape.Idx.first h_S_)).toInt) e0).trans (toInt_ctr hc _)
  · exact congrArg (fun z : IVec S_ 32 => (z (Shape.Idx.first h_S_)).toInt) e1
  · exact congrArg (fun z : IVec S_ 32 => (z (Shape.Idx.first h_S_)).toInt) e2

theorem fwd1_at (hc : rdCtr X = fun _ => BitVec.ofNat 32 k.val) (b : Fin 128) :
    rd62 (after fwd1 X) (ix1 b) = rdMask X (ix2 k b) := by
  have e0 : rdCtr (after (fwd1.take 1) X) = rdCtr X := by
    show after (fwd1.take 1) X (Proc.devRef .tc main_v14_3) = X (Proc.devRef .tc main_v14_3)
    exact after_unwritten [main_while0b_call1_c] rfl (by decide +kernel) X
  have e1 : (after (fwd1.take 1) X (Proc.devRef .tc main_while0b_call1_c) : IVec S_ 32) = constantI S_ 32 0#32 := by
    show after [_] X _ = _
    after_results; rfl
  show (after fwd1 X (Proc.devRef .tc main_while0b_v62) : FVec F S128 .f32) (ix1 b) = _
  after_results
  refine (shapeCast_1a_a_apply _ _ _).trans (dynRow2 _ _ k ?_ ?_ b)
  · exact (congrArg (fun z : IVec S_ 32 => (z (Shape.Idx.first h_S_)).toInt) e0).trans (toInt_ctr hc _)
  · exact congrArg (fun z : IVec S_ 32 => (z (Shape.Idx.first h_S_)).toInt) e1

theorem fwd2_cand (b : Fin 128) (p c : Fin 52) :
    rd70 (after fwd2 X) (ix3 b p c)
      = FloatOps.addf (FloatOps.addf (rd61 X (ix2 b c)) (rdTrans X (ix2 p c))) (rdPart X (ix2 b p)) := by
  show (after fwd2 X (Proc.devRef .tc main_while0b_v70) : FVec F S128x52x52 .f32) (ix3 b p c) = _
  after_results
  refine congrArg₂ FloatOps.addf (congrArg₂ FloatOps.addf (congrArg (rd61 X) ?_) (congrArg (rdTrans X) ?_)) (congrArg (rdPart X) ?_)
  all_goals
    funext a
    refine Fin.ext ?_
    fin_cases a <;> rfl

theorem fwd2_max : rd71 (after fwd2 X)
    = Host.reduce FloatOps.maximumf (rd70 (after fwd2 X)) (constant S_ .f32 0xFF800000#32) reducesTo_S128x52x52_S128x52_d1 h_S_ := by
  show after fwd2 X (Proc.devRef .tc main_while0b_v71) = Host.reduce FloatOps.maximumf (after fwd2 X (Proc.devRef .tc main_while0b_v70) : FVec F S128x52x52 .f32) _ _ _
  after_results

theorem fwd3_arg : rd72 (after fwd3 X) = fun j => (Host.argReduce reducer_argmax_f32_i32 (rd70 X) (iotaInDim S128x52x52 32 1)
    (constant S_ .f32 0xFF800000#32) (constantI S_ 32 0#32) reducesTo_S128x52x52_S128x52_d1 h_S_ j).2 := by
  show after fwd3 X (Proc.devRef .tc main_while0b_v72) = _
  after_results
  rfl

theorem fwd4_at (b : Fin 128) : rd75 (after fwd4 X) (ix2 b 0) = FloatOps.cmpf .ogt (rd62 X (ix1 b)) (FloatOps.ofBits .f32 0x00000000#32) := by
  show (after fwd4 X (Proc.devRef .tc main_while0b_v75) : IVec S128x1 1) (ix2 b 0) = _
  after_results
  refine congrArg₂ (FloatOps.cmpf .ogt) (congrArg (rd62 X) ?_) rfl
  funext a
  refine Fin.ext ?_
  fin_cases a; rfl

theorem fwd5_at (b : Fin 128) (c : Fin 52) : rd76 (after fwd5 X) (ix2 b c) = Scalar.select (rd75 X (ix2 b 0)) (rd72 X (ix2 b c)) (rdC18 X ix0) := by
  show (after fwd5 X (Proc.devRef .tc main_while0b_v76) : IVec S128x52 32) (ix2 b c) = _
  after_results
  show Scalar.select (rd75 X _) (rd72 X (ix2 b c)) (rdC18 X _) = _
  congr 1
  · refine congrArg (rd75 X) (funext fun a => Fin.ext ?_)
    fin_cases a <;> rfl
  · exact congrArg (rdC18 X) (funext fun a => a.elim0)

theorem fwd6_at (hc : rdCtr X = fun _ => BitVec.ofNat 32 k.val) (r : Fin 511) (b : Fin 128) (t : Fin 52) :
    rd77 (after fwd6 X) (ix3 r b t) = if r = k then rd71 X (ix2 b t) else rdParts X (ix3 r b t) := by
  have e0 : rdCtr (after (fwd6.take 3) X) = rdCtr X := by
    show after (fwd6.take 3) X (Proc.devRef .tc main_v14_3) = X (Proc.devRef .tc main_v14_3)
    exact after_unwritten [main_while0b_call4_v0, main_while0b_call4_c, main_while0b_call4_c_0] rfl (by decide +kernel) X
  have e1 : (after (fwd6.take 3) X (Proc.devRef .tc main_while0b_call4_c) : IVec S_ 32) = constantI S_ 32 0#32 := by
    show after [_, _, _] X _ = _
    after_results; rfl
  have e2 : (after (fwd6.take 3) X (Proc.devRef .tc main_while0b_call4_c_0) : IVec S_ 32) = constantI S_ 32 0#32 := by
    show after [_, _, _] X _ = _
    after_results; rfl
  show (after fwd6 X (Proc.devRef .tc main_while0b_v77) : FVec F S511x128x52 .f32) (ix3 r b t) = _
  after_results
  refine (putRow3 _ _ _ k ?_ ?_ ?_ r b t).trans ?_
  · exact (congrArg (fun z : IVec S_ 32 => (z (Shape.Idx.first h_S_)).toInt) e0).trans (toInt_ctr hc _)
  · exact congrArg (fun z : IVec S_ 32 => (z (Shape.Idx.first h_S_)).toInt) e1
  · exact congrArg (fun z : IVec S_ 32 => (z (Shape.Idx.first h_S_)).toInt) e2
  · by_cases h : r = k
    · rw [if_pos h, if_pos h]
      refine congrArg (rd71 X) (funext fun a => Fin.ext ?_)
      fin_cases a <;> rfl
    · rw [if_neg h, if_neg h]; rfl

theorem fwd7_at (hc : rdCtr X = fun _ => BitVec.ofNat 32 k.val) (r : Fin 511) (b : Fin 128) (t : Fin 52) :
    rd78 (after fwd7 X) (ix3 r b t) = if r = k then rd76 X (ix2 b t) else rdBps X (ix3 r b t) := by
  have e0 : rdCtr (after (fwd7.take 3) X) = rdCtr X := by
    show after (fwd7.take 3) X (Proc.devRef .tc main_v14_3) = X (Proc.devRef .tc main_v14_3)
    exact after_unwritten [main_while0b_call5_v0, main_while0b_call5_c, main_while0b_call5_c_0] rfl (by decide +kernel) X
  have e1 : (after (fwd7.take 3) X (Proc.devRef .tc main_while0b_call5_c) : IVec S_ 32) = constantI S_ 32 0#32 := by
    show after [_, _, _] X _ = _
    after_results; rfl
  have e2 : (after (fwd7.take 3) X (Proc.devRef .tc main_while0b_call5_c_0) : IVec S_ 32) = constantI S_ 32 0#32 := by
    show after [_, _, _] X _ = _
    after_results; rfl
  show (after fwd7 X (Proc.devRef .tc main_while0b_v78) : IVec S511x128x52 32) (ix3 r b t) = _
  after_results
  refine (putRow3 _ _ _ k ?_ ?_ ?_ r b t).trans ?_
  · exact (congrArg (fun z : IVec S_ 32 => (z (Shape.Idx.first h_S_)).toInt) e0).trans (toInt_ctr hc _)
  · exact congrArg (fun z : IVec S_ 32 => (z (Shape.Idx.first h_S_)).toInt) e1
  · exact congrArg (fun z : IVec S_ 32 => (z (Shape.Idx.first h_S_)).toInt) e2
  · by_cases h : r = k
    · rw [if_pos h, if_pos h]
      refine congrArg (rd76 X) (funext fun a => Fin.ext ?_)
      fin_cases a <;> rfl
    · rw [if_neg h, if_neg h]; rfl

theorem fwd8_part : rdPart (after fwd8 X) = rd71 X := by
  show after fwd8 X (Proc.devRef .tc main_v14_4) = _
  after_results; rfl
theorem fwd8_parts : rdParts (after fwd8 X) = rd77 X := by
  show after fwd8 X (Proc.devRef .tc main_v14_5) = _
  after_results; rfl
theorem fwd8_bps : rdBps (after fwd8 X) = rd78 X := by
  show after fwd8 X (Proc.devRef .tc main_v14_6) = _
  after_results; rfl

end Reads

end Cert.ReferenceIdeal.Ops

end
-- ==== Proof.RefTrip.lean ====
/-
  The forward loop of the reference read as the recurrence: after `k` trips row `k - 1` of the pointers and the partition hold the
  first largest candidates of that step.
-/
module

public import proofs.«01_k».proof.Proof.RefForward

@[expose] public section

set_option maxRecDepth 8192

noncomputable section

namespace Cert.ReferenceIdeal.Ops

open Cert.ReferenceIdeal Cert.ReferenceIdeal.Gen Cert.Crf
open Idealize.ShloMosaic Idealize.ShloMosaic.TcCoe Idealize.ShloMosaic.StableHlo Idealize.ShloMosaic.ValueIdx

section Trip

variable (V : Valuation τ sig (Elt Ideal))

/-- The contents before and after each stretch of the trip. -/
abbrev u0 : Valuation τ sig (Elt Ideal) := after cond0 V
abbrev u1 : Valuation τ sig (Elt Ideal) := after fwd0 (u0 V)
abbrev u2 : Valuation τ sig (Elt Ideal) := after fwd1 (u1 V)
abbrev u3 : Valuation τ sig (Elt Ideal) := after fwd2 (u2 V)
abbrev u4 : Valuation τ sig (Elt Ideal) := after fwd3 (u3 V)
abbrev u5 : Valuation τ sig (Elt Ideal) := after fwd4 (u4 V)
abbrev u6 : Valuation τ sig (Elt Ideal) := after fwd5 (u5 V)
abbrev u7 : Valuation τ sig (Elt Ideal) := after fwd6 (u6 V)
abbrev u8 : Valuation τ sig (Elt Ideal) := after fwd7 (u7 V)
abbrev u9 : Valuation τ sig (Elt Ideal) := after fwd8 (u8 V)

theorem trip_eq : afterL fwdI (after cond0 V) = u9 V := by simp only [afterL_cons, afterL_nil]

variable {b : Ref sig .tc}

theorem w0 (h : b ∉ [main_while0c_c_16, main_while0c_v61]) : u0 V (Proc.devRef .tc b) = V (Proc.devRef .tc b) :=
  after_unwritten (ops := cond0) [main_while0c_c_16, main_while0c_v61] rfl h V
theorem w1 (h : b ∉ fwd0W) : u1 V (Proc.devRef .tc b) = u0 V (Proc.devRef .tc b) := after_unwritten (ops := fwd0) fwd0W rfl h _
theorem w2 (h : b ∉ fwd1W) : u2 V (Proc.devRef .tc b) = u1 V (Proc.devRef .tc b) := after_unwritten (ops := fwd1) fwd1W rfl h _
theorem w3 (h : b ∉ fwd2W) : u3 V (Proc.devRef .tc b) = u2 V (Proc.devRef .tc b) := after_unwritten (ops := fwd2) fwd2W rfl h _
theorem w4 (h : b ∉ fwd3W) : u4 V (Proc.devRef .tc b) = u3 V (Proc.devRef .tc b) := after_unwritten (ops := fwd3) fwd3W rfl h _
theorem w5 (h : b ∉ fwd4W) : u5 V (Proc.devRef .tc b) = u4 V (Proc.devRef .tc b) := after_unwritten (ops := fwd4) fwd4W rfl h _
theorem w6 (h : b ∉ fwd5W) : u6 V (Proc.devRef .tc b) = u5 V (Proc.devRef .tc b) := after_unwritten (ops := fwd5) fwd5W rfl h _
theorem w7 (h : b ∉ fwd6W) : u7 V (Proc.devRef .tc b) = u6 V (Proc.devRef .tc b) := after_unwritten (ops := fwd6) fwd6W rfl h _
theorem w8 (h : b ∉ fwd7W) : u8 V (Proc.devRef .tc b) = u7 V (Proc.devRef .tc b) := after_unwritten (ops := fwd7) fwd7W rfl h _

/-- Up to the second, third, sixth and eighth point. -/
theorem to1 (h : b ∉ [main_while0c_c_16, main_while0c_v61] ++ fwd0W) : u1 V (Proc.devRef .tc b) = V (Proc.devRef .tc b) := by
  simp only [List.mem_append, not_or] at h
  exact (w1 V h.2).trans (w0 V h.1)
theorem to2 (h : b ∉ [main_while0c_c_16, main_while0c_v61] ++ fwd0W ++ fwd1W) : u2 V (Proc.devRef .tc b) = V (Proc.devRef .tc b) := by
  rw [List.mem_append, not_or] at h
  exact (w2 V h.2).trans (to1 V h.1)
theorem to6 (h : b ∉ [main_while0c_c_16, main_while0c_v61] ++ fwd0W ++ fwd1W ++ (fwd2W ++ fwd3W ++ fwd4W ++ fwd5W)) :
    u6 V (Proc.devRef .tc b) = V (Proc.devRef .tc b) := by
  rw [List.mem_append, not_or] at h
  obtain ⟨h, h'⟩ := h
  simp only [List.mem_append, not_or] at h'
  obtain ⟨⟨⟨h2, h3⟩, h4⟩, h5⟩ := h'
  exact (w6 V h5).trans ((w5 V h4).trans ((w4 V h3).trans ((w3 V h2).trans (to2 V h))))
theorem to7 (h : b ∉ [main_while0c_c_16, main_while0c_v61] ++ fwd0W ++ fwd1W ++ (fwd2W ++ fwd3W ++ fwd4W ++ fwd5W) ++ fwd6W) :
    u7 V (Proc.devRef .tc b) = V (Proc.devRef .tc b) := by
  rw [List.mem_append, not_or] at h
  exact (w7 V h.2).trans (to6 V h.1)

variable {V} {k : Fin 511}

theorem ofBits_zero : (FloatOps.ofBits (F := Ideal) .f32 0x00000000#32 : EReal) = 0 := by simp [Ideal.ofBits, Ideal.ieee]

/-- The partition and the pointers a trip leaves. -/
theorem trip_holds (hc : rdCtr V = fun _ => BitVec.ofNat 32 k.val) (hm : ∀ b : Fin 128, (0 : EReal) < rdMask V (ix2 k b)) (b : Fin 128) (c : Fin 52) :
    Holds (fun p => (rdFeats V (ix3 k b c) + rdTrans V (ix2 p c)) + rdPart V (ix2 b p)) (fun _ => True)
      (rdPart (u9 V) (ix2 b c)) (rdBps (u9 V) (ix3 k b c)) := by
  have c0 : rdCtr (u0 V) = fun _ => BitVec.ofNat 32 k.val := (w0 V (by decide +kernel)).trans hc
  have c1 : rdCtr (u1 V) = fun _ => BitVec.ofNat 32 k.val := (to1 V (by decide +kernel)).trans hc
  have c7 : rdCtr (u7 V) = fun _ => BitVec.ofNat 32 k.val := (to7 V (by decide +kernel)).trans hc
  have e61 : rd61 (u2 V) (ix2 b c) = rdFeats V (ix3 k b c) :=
    (congrFun (show rd61 (u2 V) = rd61 (u1 V) from w2 V (by decide +kernel)) _).trans
      ((fwd0_at c0 b c).trans (congrFun (show rdFeats (u0 V) = rdFeats V from w0 V (by decide +kernel)) _))
  have e70 : ∀ p, rd70 (u3 V) (ix3 b p c) = (rdFeats V (ix3 k b c) + rdTrans V (ix2 p c)) + rdPart V (ix2 b p) := fun p => by
    refine (fwd2_cand b p c).trans ?_
    rw [e61, show rdTrans (u2 V) = rdTrans V from to2 V (by decide +kernel), show rdPart (u2 V) = rdPart V from to2 V (by decide +kernel)]
    rfl
  obtain ⟨mx, i, hi, hw⟩ : ∃ mx, Holds (fun p => rd70 (u3 V) (ix3 b p c)) (fun _ => True) mx (rd72 (u4 V) (ix2 b c)) :=
    ⟨_, by rw [fwd3_arg]; exact argmax_holds (rd70 (u3 V)) b c⟩
  have hp : rdBps (u9 V) (ix3 k b c) = rd72 (u4 V) (ix2 b c) := by
    have e75 : rd75 (u5 V) (ix2 b 0) = 1#1 := by
      refine (fwd4_at b).trans ?_
      rw [show rd62 (u4 V) = rd62 (u2 V) from (w4 V (by decide +kernel)).trans (w3 V (by decide +kernel))]
      refine (ogt_iff _ _).mpr ?_
      rw [ofBits_zero, fwd1_at c1 b, show rdMask (u1 V) = rdMask V from to1 V (by decide +kernel)]
      exact hm b
    rw [fwd8_bps, fwd7_at c7, if_pos rfl, show rd76 (u7 V) = rd76 (u6 V) from w7 V (by decide +kernel), fwd5_at, e75,
      show rd72 (u5 V) = rd72 (u4 V) from w5 V (by decide +kernel)]
    rfl
  have hv : rdPart (u9 V) (ix2 b c) = mx := by
    rw [fwd8_part, show rd71 (u8 V) = rd71 (u3 V) from (w8 V (by decide +kernel)).trans ((w7 V (by decide +kernel)).trans ((w6 V (by decide +kernel)).trans
      ((w5 V (by decide +kernel)).trans (w4 V (by decide +kernel))))), fwd2_max]
    exact rowmax_eq (rd70 (u3 V)) b c mx i hi
  refine ⟨i, ?_, ?_⟩
  · rw [hv]
    rw [show (fun p => (rdFeats V (ix3 k b c) + rdTrans V (ix2 p c)) + rdPart V (ix2 b p)) = fun p => rd70 (u3 V) (ix3 b p c) from funext fun p => (e70 p).symm]
    exact hi
  · exact hp.trans hw

/-- Row `k` of the partitions becomes the partition, the other rows stay. -/
theorem trip_parts (hc : rdCtr V = fun _ => BitVec.ofNat 32 k.val) (r : Fin 511) (b : Fin 128) (t : Fin 52) :
    rdParts (u9 V) (ix3 r b t) = if r = k then rdPart (u9 V) (ix2 b t) else rdParts V (ix3 r b t) := by
  have c6 : rdCtr (u6 V) = fun _ => BitVec.ofNat 32 k.val := (to6 V (by decide +kernel)).trans hc
  rw [fwd8_parts, fwd8_part, show rd77 (u8 V) = rd77 (u7 V) from w8 V (by decide +kernel), fwd6_at c6,
    show rdParts (u6 V) = rdParts V from to6 V (by decide +kernel),
    show rd71 (u8 V) = rd71 (u6 V) from (w8 V (by decide +kernel)).trans (w7 V (by decide +kernel))]

/-- The other rows of the pointers stay. -/
theorem trip_bps (hc : rdCtr V = fun _ => BitVec.ofNat 32 k.val) (r : Fin 511) (h : r ≠ k) (b : Fin 128) (t : Fin 52) :
    rdBps (u9 V) (ix3 r b t) = rdBps V (ix3 r b t) := by
  have c7 : rdCtr (u7 V) = fun _ => BitVec.ofNat 32 k.val := (to7 V (by decide +kernel)).trans hc
  rw [fwd8_bps, fwd7_at c7, if_neg h, show rdBps (u7 V) = rdBps V from to7 V (by decide +kernel)]

end Trip

variable (m : (ℓ : Loc nD τ sig) → Buf (Elt Ideal) ℓ) (d : Dev nD)

theorem ctr_at (k : ℕ) : rdCtr (at0 m k d) = fun _ => BitVec.ofNat 32 k := by
  rw [show rdCtr (at0 m k d) = _ from at0_ctr m d k, iv_eq]; rfl

theorem at0_succ (k : ℕ) : at0 m (k + 1) d = u9 (at0 m k d) := trip_eq (at0 m k d)

theorem feats_at (k : ℕ) : rdFeats (at0 m k d) = rdFeats (at0 m 0 d) := at0_keep m d (by decide +kernel) k
theorem mask_at (k : ℕ) : rdMask (at0 m k d) = rdMask (at0 m 0 d) := at0_keep m d (by decide +kernel) k
theorem trans_at (k : ℕ) : rdTrans (at0 m k d) = rdTrans (at0 m 0 d) := at0_keep m d (by decide +kernel) k

variable {m d}

/-- Trip `k`. -/
theorem at0_holds (hm : ∀ r b, (0 : EReal) < rdMask (at0 m 0 d) (ix2 r b)) (k : Fin 511) (b : Fin 128) (c : Fin 52) :
    Holds (fun p => (rdFeats (at0 m 0 d) (ix3 k b c) + rdTrans (at0 m 0 d) (ix2 p c)) + rdPart (at0 m k.val d) (ix2 b p)) (fun _ => True)
      (rdPart (at0 m (k.val + 1) d) (ix2 b c)) (rdBps (at0 m (k.val + 1) d) (ix3 k b c)) := by
  have h := trip_holds (V := at0 m k.val d) (k := k) (ctr_at m d k.val) (fun b => by rw [mask_at]; exact hm k b) b c
  rw [at0_succ]
  rw [feats_at, trans_at] at h
  exact h

/-- A row once written stays. -/
theorem bps_stay (k : Fin 511) (b : Fin 128) (t : Fin 52) : ∀ n, k.val + 1 ≤ n → n ≤ 511 →
    rdBps (at0 m n d) (ix3 k b t) = rdBps (at0 m (k.val + 1) d) (ix3 k b t) := by
  intro n hn
  induction n, hn using Nat.le_induction with
  | base => intro _; rfl
  | succ n hn ih =>
    intro h
    rw [at0_succ, trip_bps (V := at0 m n d) (k := ⟨n, by omega⟩) (ctr_at m d n) k (fun e => by have := congrArg Fin.val e; simp at this; omega)]
    exact ih (by omega)

/-- The last row of the partitions is the last partition. -/
theorem parts_last (b : Fin 128) (t : Fin 52) : rdParts (at0 m 511 d) (ix3 510 b t) = rdPart (at0 m 511 d) (ix2 b t) := by
  rw [show at0 m 511 d = _ from at0_succ m d 510, trip_parts (V := at0 m 510 d) (k := 510) (ctr_at m d 510), if_pos rfl]

end Cert.ReferenceIdeal.Ops

end
-- ==== Proof.RefMid.lean ====
/-
  The reference before, between and after its loops, entry by entry: the first partition, the last position of each sequence (511 under a
  mask of ones), the last partition, the first pointers, the rows of pointers the backward loop reads.
-/
module

public import proofs.«01_k».proof.Proof.RefTrip
public import Idealize.ShloMosaic.Lib.Pipeline.Value
public import Idealize.ShloMosaic.Lib.ReduceAll
public import Idealize.ShloMosaic.Lib.DynamicIndex
public import Idealize.ShloMosaic.Lib.IdealHost

@[expose] public section

set_option maxRecDepth 8192

noncomputable section

namespace Cert.ReferenceIdeal.Ops

open Cert.ReferenceIdeal Cert.ReferenceIdeal.Gen Cert.Crf
open Idealize.ShloMosaic Idealize.ShloMosaic.TcCoe Idealize.ShloMosaic.StableHlo Idealize.ShloMosaic.ValueIdx

section Before

variable {F : FTy → Type} [FloatOps F]
variable (X : Valuation τ sig (Elt F))

abbrev rdArg0 : FVec F S512x52x128 .f32 := X (Proc.devRef .tc main_arg0)
abbrev rdArg1 : FVec F S128x512 .f32 := X (Proc.devRef .tc main_arg1)
abbrev rdArg2 : FVec F S52x52 .f32 := X (Proc.devRef .tc main_arg2)
abbrev rd20 : IVec S128 32 := X (Proc.devRef .tc main_v20)
abbrev rd21 : FVec F S128x512x52 .f32 := X (Proc.devRef .tc main_v21)
abbrev rd23 : IVec S128x1x52 32 := X (Proc.devRef .tc main_v23)
abbrev rd24 : FVec F S128x1x52 .f32 := X (Proc.devRef .tc main_v24)
abbrev rd30 : FVec F S128x52x52 .f32 := X (Proc.devRef .tc main_v30)
abbrev rd31 : IVec S128x52 32 := X (Proc.devRef .tc main_v31)
abbrev rd33 : IVec S128 32 := X (Proc.devRef .tc main_v33)
abbrev rd36 : IVec S128x512x52 32 := X (Proc.devRef .tc main_v36)
abbrev rdC6 : IVec S_ 32 := X (Proc.devRef .tc main_c_6)
/-- The pointers' rows that the backward loop reads. -/
abbrev rdRows : IVec S511x128x52 32 := X (Proc.devRef .tc main_v57_0)
/-- The pointer that the backward loop carries. -/
abbrev rdPtr : IVec S128 32 := X (Proc.devRef .tc main_v57_2)
/-- The decoded tags so far. -/
abbrev rdDec : IVec S511x128 32 := X (Proc.devRef .tc main_v57_3)

variable {X}

theorem pre_feats (k : Fin 511) (b : Fin 128) (c : Fin 52) : rdFeats (after pre0 X) (ix3 k b c) = rdArg0 X (ix3 k.succ c b) := by
  show (after pre0 X (Proc.devRef .tc main_v14_0) : FVec F S511x128x52 .f32) (ix3 k b c) = _
  after_results
  refine congrArg (rdArg0 X) (funext fun a => Fin.ext ?_)
  have hk : (k.succ : Fin 512).val = 1 + k.val := by simp [Nat.add_comm]
  fin_cases a
  · exact hk.symm
  · exact Nat.zero_add _
  · exact Nat.zero_add _

theorem pre_mask (k : Fin 511) (b : Fin 128) : rdMask (after pre0 X) (ix2 k b) = rdArg1 X (ix2 b k.succ) := by
  show (after pre0 X (Proc.devRef .tc main_v14_1) : FVec F S511x128 .f32) (ix2 k b) = _
  after_results
  refine congrArg (rdArg1 X) (funext fun a => Fin.ext ?_)
  have hk : (k.succ : Fin 512).val = 1 + k.val := by simp [Nat.add_comm]
  fin_cases a
  · exact Nat.zero_add _
  · exact hk.symm

theorem pre_trans : rdTrans (after pre0 X) = rdArg2 X := by
  show after pre0 X (Proc.devRef .tc main_v14_2) = _
  after_results
  rfl

theorem pre_part (b : Fin 128) (c : Fin 52) :
    rdPart (after pre0 X) (ix2 b c) = FloatOps.addf (rdArg0 X (ix3 0 c b)) (rdArg2 X (ix2 50 c)) := by
  show (after pre0 X (Proc.devRef .tc main_v14_4) : FVec F S128x52 .f32) (ix2 b c) = _
  after_results
  refine congrArg₂ FloatOps.addf ?_ ?_
  · refine (shapeCast_1ab_ab_apply _ _ _ _).trans (congrArg (rdArg0 X) (funext fun a => Fin.ext ?_))
    fin_cases a
    · rfl
    · exact Nat.zero_add _
    · exact Nat.zero_add _
  · refine (congrArg (shapeCast S52 (extractStridedSlice S1x52 ![50, 0] (rdArg2 X) slices_S52x52_S1x52_50_0) shapeCasts_S1x52_S52)
      (show _ = ix1 c from funext fun a => Fin.ext ?_)).trans ?_
    · fin_cases a; rfl
    · refine (shapeCast_1a_a_apply _ _ _).trans (congrArg (rdArg2 X) (funext fun a => Fin.ext ?_))
      fin_cases a
      · rfl
      · exact Nat.zero_add _

/-! ## Between the loops -/

theorem mid0_parts (b : Fin 128) (t : Fin 52) : rd21 (after mid0 X) (ix3 b 511 t) = rdParts X (ix3 510 b t) := by
  show (after mid0 X (Proc.devRef .tc main_v21) : FVec F S128x512x52 .f32) (ix3 b 511 t) = _
  after_results
  refine (congrArg (concatenate S512x128x52 0 [⟨S1x128x52, broadcastInDim S1x128x52 ![1, 2] bcast_S128x52_S1x128x52_1_2 (X (Proc.devRef .tc main_v9))⟩,
    ⟨S511x128x52, rdParts X⟩] concatenates_S1x128x52_S511x128x52_S512x128x52_d0) (show _ = ix3 511 b t from funext fun a => Fin.ext ?_)).trans
    (concatenate_pair_apply_right (t := S512x128x52) (s₁ := S1x128x52) (s₂ := S511x128x52) 0 _ _ _ _ rfl rfl (ix3 510 b t) ?_ rfl)
  · fin_cases a <;> rfl
  · intro a ha
    fin_cases a
    · exact absurd rfl ha
    · rfl
    · rfl

theorem mid0_bcast (b : Fin 128) (t : Fin 52) : rd23 (after mid0 X) (ix3 b 0 t) = rd20 (after mid0 X) (ix1 b) := by
  show (after mid0 X (Proc.devRef .tc main_v23) : IVec S128x1x52 32) (ix3 b 0 t) = (after mid0 X (Proc.devRef .tc main_v20) : IVec S128 32) (ix1 b)
  after_results
  refine congrArg (subi (fptosi 32 (Host.reduceAdd (rdArg1 X) (constant S_ .f32 0x00000000#32) reducesTo_S128x512_S128_d1 h_S_))
    (broadcastInDim S128 ![] bcast_S_S128 (constantI S_ 32 1#32))) (funext fun a => Fin.ext ?_)
  fin_cases a; rfl

/-- The lookup of the last partition. -/
theorem mid1_read : rd24 (after mid1 X) = (fun (i : IVec S128x1x52x1 32) =>
      select (Host.reduce IntOp.andi (andi (cmpi .sge i (broadcastInDim S128x1x52x1 ![] bcast_S_S128x1x52x1 (constantI S_ 32 0#32)))
        (cmpi .sle i (broadcastInDim S128x1x52x1 ![0, 1, 2, 3] bcast_S1x1x1x1_S128x1x52x1_0_1_2_3
          (broadcastInDim S1x1x1x1 ![3] bcast_S1_S1x1x1x1_3 (constantI S1 32 511#32))))) (constantI S_ 1 1#1) reducesTo_S128x1x52x1_S128x1x52_d3 h_S_)
        (Host.gather gather_S128x512x52_S128x1x52x1_S128x1x52_n_1_02_02_1_3_111 (rd21 X) i)
        (broadcastInDim S128x1x52 ![] bcast_S_S128x1x52 (constant S_ .f32 0x7FC00000#32)))
    (shapeCast S128x1x52x1 (select (cmpi .slt (rd23 X) (broadcastInDim S128x1x52 ![] bcast_S_S128x1x52 (constantI S_ 32 0#32)))
      (addi (rd23 X) (broadcastInDim S128x1x52 ![] bcast_S_S128x1x52 (constantI S_ 32 512#32))) (rd23 X)) shapeCasts_S128x1x52_S128x1x52x1) := by
  show after mid1 X (Proc.devRef .tc main_v24) = _
  after_results
  rfl

theorem mid1_at (h : rd23 X = fun _ => 511#32) (b : Fin 128) (t : Fin 52) : rd24 (after mid1 X) (ix3 b 0 t) = rd21 X (ix3 b 511 t) := by
  have hi : (shapeCast S128x1x52x1 (select (cmpi .slt (rd23 X) (broadcastInDim S128x1x52 ![] bcast_S_S128x1x52 (constantI S_ 32 0#32)))
      (addi (rd23 X) (broadcastInDim S128x1x52 ![] bcast_S_S128x1x52 (constantI S_ 32 512#32))) (rd23 X)) shapeCasts_S128x1x52_S128x1x52x1)
      = fun _ => 511#32 := by
    rw [h]; rfl
  rw [mid1_read, hi]
  have h1 : Host.reduce IntOp.andi (andi (cmpi .sge (fun _ => 511#32) (broadcastInDim S128x1x52x1 ![] bcast_S_S128x1x52x1 (constantI S_ 32 0#32)))
        (cmpi .sle (fun _ => 511#32) (broadcastInDim S128x1x52x1 ![0, 1, 2, 3] bcast_S1x1x1x1_S128x1x52x1_0_1_2_3
          (broadcastInDim S1x1x1x1 ![3] bcast_S1_S1x1x1x1_3 (constantI S1 32 511#32))))) (constantI S_ 1 1#1) reducesTo_S128x1x52x1_S128x1x52_d3 h_S_ (ix3 b 0 t) = 1#1 :=
    Host.reduce_andi_one _ _ _ _ _ rfl fun i => by
      show IntOp.andi (IntOp.cmpi .sge 511#32 0#32) (IntOp.cmpi .sle 511#32 511#32) = 1#1
      decide
  refine (congrArg (fun z => Scalar.select z _ _) h1).trans ?_
  exact gatherT_apply (rd21 X) (fun _ => 511#32) b t 511 rfl

theorem mid2_at (b : Fin 128) (p c : Fin 52) : rd30 (after mid2 X) (ix3 b p c) = FloatOps.addf (rd24 X (ix3 b 0 p)) (rdArg2 X (ix2 p c)) := by
  show (after mid2 X (Proc.devRef .tc main_v30) : FVec F S128x52x52 .f32) (ix3 b p c) = _
  after_results
  refine congrArg₂ FloatOps.addf ?_ (congrArg (rdArg2 X) (funext fun a => Fin.ext ?_))
  · refine (congrArg (shapeCast S128x52 (rd24 X) shapeCasts_S128x1x52_S128x52) (show _ = ix2 b p from funext fun a => Fin.ext ?_)).trans
      (shapeCast_apply _ _ _ _ ?_)
    · fin_cases a <;> rfl
    · rw [Shape.rowMajor_val_three, Shape.rowMajor_val_two]
      show (b.val * 1 + 0) * 52 + p.val = b.val * 52 + p.val
      omega
  · fin_cases a <;> rfl

theorem mid3_arg : rd31 (after mid3 X) = fun j => (Host.argReduce reducer_argmax_f32_i32 (rd30 X) (iotaInDim S128x52x52 32 1)
    (constant S_ .f32 0xFF800000#32) (constantI S_ 32 0#32) reducesTo_S128x52x52_S128x52_d1 h_S_ j).2 := by
  show after mid3 X (Proc.devRef .tc main_v31) = _
  after_results
  rfl

theorem mid4_ptr (b : Fin 128) : rd33 (after mid4 X) (ix1 b) = rd31 X (ix2 b 51) := by
  show (after mid4 X (Proc.devRef .tc main_v33) : IVec S128 32) (ix1 b) = _
  after_results
  refine (shapeCast_apply (s := S128x1) (t := S128) _ shapeCasts_S128x1_S128 (ix1 b) (ix2 b 0) ?_).trans (congrArg (rd31 X) (funext fun a => Fin.ext ?_))
  · rw [Shape.rowMajor_val_two, Shape.rowMajor_val_one]
    show b.val * 1 + 0 = b.val
    omega
  · fin_cases a
    · exact Nat.zero_add _
    · rfl

theorem mid4_rows (r : Fin 511) (b : Fin 128) (t : Fin 52) : rd36 (after mid4 X) (ix3 b r.castSucc t) = rdBps X (ix3 r b t) := by
  show (after mid4 X (Proc.devRef .tc main_v36) : IVec S128x512x52 32) (ix3 b r.castSucc t) = _
  after_results
  refine (congrArg (concatenate S512x128x52 0 [⟨S511x128x52, rdBps X⟩,
    ⟨S1x128x52, broadcastInDim S1x128x52 ![] bcast_S_S1x128x52 (constantI S_ 32 0#32)⟩] concatenates_S511x128x52_S1x128x52_S512x128x52_d0)
    (show _ = ix3 r.castSucc b t from funext fun a => Fin.ext ?_)).trans
    (concatenate_pair_apply_left (t := S512x128x52) (s₁ := S511x128x52) (s₂ := S1x128x52) 0 _ _ _ _ rfl (ix3 r b t) ?_)
  · fin_cases a <;> rfl
  · intro a
    fin_cases a <;> rfl

theorem mid4_zero : rdC6 (after mid4 X) = constantI S_ 32 0#32 := by
  show after mid4 X (Proc.devRef .tc main_c_6) = _
  after_results

/-- The pairs of sequence and position that the write of the last row uses. -/
abbrev idxOf (z c : IVec S128 32) (i0 : IVec S_ 32) : IVec S128x2 32 :=
  concatenate S128x2 1 [⟨S128x1, broadcastInDim S128x1 ![0] bcast_S128_S128x1_0 c⟩,
    ⟨S128x1, broadcastInDim S128x1 ![0] bcast_S128_S128x1_0 (select (cmpi .slt z (broadcastInDim S128 ![] bcast_S_S128 i0))
      (addi z (broadcastInDim S128 ![] bcast_S_S128 (constantI S_ 32 512#32))) z)⟩] concatenates_S128x1_S128x1_S128x2_d1

theorem idxOf_pos (z c : IVec S128 32) (hz : z = fun _ => 511#32) (b : Fin 128) : (idxOf z c (constantI S_ 32 0#32) (ix2 b 1)).toInt = 511 := by
  rw [hz]
  refine (congrArg BitVec.toInt (concatenate_pair_apply_right (t := S128x2) (s₁ := S128x1) (s₂ := S128x1) 1 _ _ _ _ rfl rfl (ix2 b 0) ?_ rfl)).trans rfl
  intro a ha
  fin_cases a
  · rfl
  · exact absurd rfl ha

abbrev rd51 (X : Valuation τ sig (Elt F)) : IVec S128x2 32 := X (Proc.devRef .tc main_v51)
abbrev rd52 (X : Valuation τ sig (Elt F)) : IVec S128x52 32 := X (Proc.devRef .tc main_v52)

/-- The operations up to the write, and from it on. -/
theorem mid5_split : after mid5 X = after (mid5.drop 10) (after (mid5.take 10) X) := rfl

theorem mid5_idx : rd51 (after (mid5.take 10) X) = idxOf (rd20 X) (X (Proc.devRef .tc main_v43)) (rdC6 X) := by
  show after [_, _, _, _, _, _, _, _, _, _] X (Proc.devRef .tc main_v51) = _
  after_results

theorem mid5_keep : rd36 (after (mid5.take 10) X) = rd36 X := by
  show after (mid5.take 10) X (Proc.devRef .tc main_v36) = X (Proc.devRef .tc main_v36)
  exact after_unwritten (mid5W.take 10) rfl (by decide +kernel) X

/-- The rows that the backward loop reads. -/
theorem mid5_read : rdRows (after (mid5.drop 10) X) = extractStridedSlice (α := Elt F .i32) S511x128x52 ![0, 0, 0] (transpose (α := Elt F .i32) S512x128x52 [1, 0, 2]
      (Host.scatter (α := Elt F .i32) scatter_S128x512x52_S128x2_S128x52_1_01_01_1 (fun _ b => b) (X (Proc.devRef .tc main_v36)) (X (Proc.devRef .tc main_v51)) (X (Proc.devRef .tc main_v52)))
        transposes_S128x512x52_S512x128x52_1_0_2) slices_S512x128x52_S511x128x52_0_0_0 := by
  show after [_, _, _, _, _, _, _, _, _, _] X (Proc.devRef .tc main_v57_0) = _
  after_results
  exact id_eq _

theorem rows_apply {α : Type} (y : S128x512x52.Idx → α) (r : Fin 511) (b : Fin 128) (t : Fin 52) :
    extractStridedSlice S511x128x52 ![0, 0, 0] (transpose S512x128x52 [1, 0, 2] y transposes_S128x512x52_S512x128x52_1_0_2)
      slices_S512x128x52_S511x128x52_0_0_0 (ix3 r b t) = y (ix3 b r.castSucc t) := by
  refine congrArg y (funext fun a => Fin.ext ?_)
  fin_cases a <;> exact Nat.zero_add _

theorem mid5_rows (h0 : rdC6 X = constantI S_ 32 0#32) (hz : rd20 X = fun _ => 511#32) (r : Fin 511) (b : Fin 128) (t : Fin 52) :
    rdRows (after mid5 X) (ix3 r b t) = rd36 X (ix3 b r.castSucc t) := by
  have hi : ∀ b : Fin 128, (rd51 (after (mid5.take 10) X) (ix2 b 1)).toInt = 511 := by
    rw [mid5_idx, h0]
    exact idxOf_pos _ _ hz
  refine (congrFun (mid5_read (X := after (mid5.take 10) X)) (ix3 r b t)).trans ((rows_apply (α := Elt F .i32) _ r b t).trans ?_)
  refine (scatter_keep (α := Elt F .i32) _ _ _ _ hi (ix3 b r.castSucc t) (Nat.ne_of_lt r.isLt)).trans ?_
  exact congrFun mid5_keep _

theorem mid5_ptr : rdPtr (after mid5 X) = rd33 X := by
  show after mid5 X (Proc.devRef .tc main_v57_2) = _
  after_results
  rfl

/-! ## After the loops -/

abbrev rd60 (X : Valuation τ sig (Elt F)) : IVec S512x1x128 32 := X (Proc.devRef .tc main_v60)

theorem post_dec (r : Fin 511) (b : Fin 128) : rd60 (after post0 X) (ix3 r.castSucc 0 b) = rdDec X (ix2 r b) := by
  show (after post0 X (Proc.devRef .tc main_v60) : IVec S512x1x128 32) (ix3 r.castSucc 0 b) = _
  after_results
  refine (congrArg (concatenate S512x128 0 [⟨S511x128, rdDec X⟩, ⟨S1x128, broadcastInDim S1x128 ![1] bcast_S128_S1x128_1 (rd33 X)⟩]
    concatenates_S511x128_S1x128_S512x128_d0) (show _ = ix2 r.castSucc b from funext fun a => Fin.ext ?_)).trans
    (concatenate_pair_apply_left (t := S512x128) (s₁ := S511x128) (s₂ := S1x128) 0 _ _ _ _ rfl (ix2 r b) ?_)
  · fin_cases a <;> rfl
  · intro a
    fin_cases a <;> rfl

theorem post_last (b : Fin 128) : rd60 (after post0 X) (ix3 511 0 b) = rd33 X (ix1 b) := by
  show (after post0 X (Proc.devRef .tc main_v60) : IVec S512x1x128 32) (ix3 511 0 b) = _
  after_results
  refine (congrArg (concatenate S512x128 0 [⟨S511x128, rdDec X⟩, ⟨S1x128, broadcastInDim S1x128 ![1] bcast_S128_S1x128_1 (rd33 X)⟩]
    concatenates_S511x128_S1x128_S512x128_d0) (show _ = ix2 511 b from funext fun a => Fin.ext ?_)).trans
    ((concatenate_pair_apply_right (t := S512x128) (s₁ := S511x128) (s₂ := S1x128) 0 _ _ _ _ rfl rfl (ix2 0 b) ?_ rfl).trans
      (congrArg (rd33 X) (funext fun a => Fin.ext ?_)))
  · fin_cases a <;> rfl
  · intro a ha
    fin_cases a
    · exact absurd rfl ha
    · rfl
  · fin_cases a; rfl

end Before

/-- Under a mask of ones the last position is 511. -/
theorem mid0_last {X : Valuation τ sig (Elt Ideal)} (h : rdArg1 X = fun _ => (1 : EReal)) : rd20 (after mid0 X) = fun _ => 511#32 := by
  show (after mid0 X (Proc.devRef .tc main_v20) : IVec S128 32) = _
  after_results
  funext j
  show IntOp.subi (Ideal.fptosi 32 (Ideal.hostReduceAdd reducesTo_S128x512_S128_d1 (rdArg1 X) (Ideal.ofBits .f32 0x00000000#32) j)) 1#32 = 511#32
  rw [Ideal.hostReduceAdd_single reducesTo_S128x512_S128_d1 (by decide), h]
  rw [Finset.sum_const, Finset.card_univ]
  have e : (Ideal.ofBits .f32 0x00000000#32 : EReal) + Fintype.card (Fin (S128x512.size 1)) • (1 : EReal) = ((512 : ℝ) : EReal) := by
    rw [show (Ideal.ofBits .f32 0x00000000#32 : EReal) = 0 from ofBits_zero, zero_add]
    show Fintype.card (Fin 512) • (1 : EReal) = _
    rw [Fintype.card_fin]
    simp
    rfl
  rw [e]
  have e2 : Ideal.fptosi 32 ((512 : ℝ) : EReal) = 512#32 := by
    rw [Ideal.fptosi, Ideal.toIntClamped_coe]
    norm_num
  rw [e2]
  rfl

end Cert.ReferenceIdeal.Ops

end
-- ==== Proof.RefBackward.lean ====
/-
  One trip of the reference's backward loop, entry by entry: the pointer becomes the entry of its row that it names, and goes to that row
  of the decoded tags.
-/
module

public import proofs.«01_k».proof.Proof.RefMid

@[expose] public section

set_option maxRecDepth 8192

noncomputable section

namespace Cert.ReferenceIdeal.Ops

open Cert.ReferenceIdeal Cert.ReferenceIdeal.Gen Cert.Crf
open Idealize.ShloMosaic Idealize.ShloMosaic.TcCoe Idealize.ShloMosaic.StableHlo Idealize.ShloMosaic.ValueIdx

section Reads

variable {F : FTy → Type} [FloatOps F]
variable (X : Valuation τ sig (Elt F))

/-- The backward loop's counter. -/
abbrev rdCtr1 : IVec S_ 32 := X (Proc.devRef .tc main_v57_1)
/-- The row of this trip. -/
abbrev rd62b : IVec S_ 32 := X (Proc.devRef .tc main_while1b_v62)
abbrev rd63b : IVec S128x52 32 := X (Proc.devRef .tc main_while1b_v63)
abbrev rd64b : IVec S128x1 32 := X (Proc.devRef .tc main_while1b_v64)
abbrev rd65b : IVec S128x1 32 := X (Proc.devRef .tc main_while1b_v65)
abbrev rd66b : IVec S128 32 := X (Proc.devRef .tc main_while1b_v66)
abbrev rd67b : IVec S511x128 32 := X (Proc.devRef .tc main_while1b_v67)

variable {X} {r : Fin 511}

theorem bwd0_row (hc : rdCtr1 X = fun _ => BitVec.ofNat 32 (510 - r.val)) : rd62b (after bwd0 X) = fun _ => BitVec.ofNat 32 r.val := by
  show after bwd0 X (Proc.devRef .tc main_while1b_v62) = _
  after_results
  show subi (subi (constantI S_ 32 511#32) (rdCtr1 X)) (constantI S_ 32 1#32) = _
  rw [hc]
  funext j
  show (511#32 - BitVec.ofNat 32 (510 - r.val)) - 1#32 = BitVec.ofNat 32 r.val
  have hr := r.isLt
  apply BitVec.eq_of_toNat_eq
  simp only [BitVec.toNat_sub, BitVec.toNat_ofNat]
  omega

theorem toInt_row (hr : rd62b X = fun _ => BitVec.ofNat 32 r.val) (j : S_.Idx) : (rd62b X j).toInt = r.val := by
  rw [hr]
  have := r.isLt
  exact toInt_small (by omega)

theorem bwd1_at (hr : rd62b X = fun _ => BitVec.ofNat 32 r.val) (b : Fin 128) (t : Fin 52) :
    rd63b (after bwd1 X) (ix2 b t) = rdRows X (ix3 r b t) := by
  have e0 : rd62b (after (bwd1.take 2) X) = rd62b X := by
    show after (bwd1.take 2) X (Proc.devRef .tc main_while1b_v62) = X (Proc.devRef .tc main_while1b_v62)
    exact after_unwritten [main_while1b_call8_c, main_while1b_call8_c_0] rfl (by decide +kernel) X
  have e1 : (after (bwd1.take 2) X (Proc.devRef .tc main_while1b_call8_c) : IVec S_ 32) = constantI S_ 32 0#32 := by
    show after [_, _] X _ = _
    after_results; rfl
  have e2 : (after (bwd1.take 2) X (Proc.devRef .tc main_while1b_call8_c_0) : IVec S_ 32) = constantI S_ 32 0#32 := by
    show after [_, _] X _ = _
    after_results; rfl
  show (after bwd1 X (Proc.devRef .tc main_while1b_v63) : IVec S128x52 32) (ix2 b t) = _
  after_results
  refine (shapeCast_1ab_ab_apply _ _ _ _).trans (dynRow3 _ _ r ?_ ?_ ?_ b t)
  · exact (congrArg (fun z : IVec S_ 32 => (z (Shape.Idx.first h_S_)).toInt) e0).trans (toInt_row hr _)
  · exact congrArg (fun z : IVec S_ 32 => (z (Shape.Idx.first h_S_)).toInt) e1
  · exact congrArg (fun z : IVec S_ 32 => (z (Shape.Idx.first h_S_)).toInt) e2

theorem bwd2_at (b : Fin 128) : rd64b (after bwd2 X) (ix2 b 0) = rdPtr X (ix1 b) := by
  show (after bwd2 X (Proc.devRef .tc main_while1b_v64) : IVec S128x1 32) (ix2 b 0) = _
  after_results
  refine congrArg (rdPtr X) (funext fun a => Fin.ext ?_)
  fin_cases a; rfl

/-- The pointer as an index: a negative one would count from the end. -/
abbrev wrap (p : IVec S128x1 32) : IVec S128x1x1 32 :=
  shapeCast S128x1x1 (select (cmpi .slt p (broadcastInDim S128x1 ![] bcast_S_S128x1 (constantI S_ 32 0#32)))
    (addi p (broadcastInDim S128x1 ![] bcast_S_S128x1 (constantI S_ 32 52#32))) p) shapeCasts_S128x1_S128x1x1

/-- Which indices are in range. -/
abbrev inside (i : IVec S128x1x1 32) : IVec S128x1x1 1 :=
  andi (cmpi .sge i (broadcastInDim S128x1x1 ![] bcast_S_S128x1x1 (constantI S_ 32 0#32)))
    (cmpi .sle i (broadcastInDim S128x1x1 ![0, 1, 2] bcast_S1x1x1_S128x1x1_0_1_2
      (broadcastInDim S1x1x1 ![2] bcast_S1_S1x1x1_2 (constantI S1 32 51#32))))

theorem bwd3_read : rd65b (after bwd3 X) = select (Host.reduce IntOp.andi (inside (wrap (rd64b X))) (constantI S_ 1 1#1) reducesTo_S128x1x1_S128x1_d2 h_S_)
      (Host.gather gather_S128x52_S128x1x1_S128x1_n_1_0_0_1_2_11 (rd63b X) (wrap (rd64b X)))
      (broadcastInDim S128x1 ![] bcast_S_S128x1 (constantI S_ 32 2147483648#32)) := by
  show after bwd3 X (Proc.devRef .tc main_while1b_v65) = _
  after_results
  rfl

theorem wrap_apply (p : IVec S128x1 32) (b : Fin 128) (u v : Fin 1) (q : Fin 52) (h : p (ix2 b 0) = BitVec.ofNat 32 q.val) :
    wrap p (ix3 b u v) = BitVec.ofNat 32 q.val := by
  have hq := q.isLt
  refine (shapeCast_apply (s := S128x1) (t := S128x1x1) _ shapeCasts_S128x1_S128x1x1 (ix3 b u v) (ix2 b 0) ?_).trans ?_
  · rw [Shape.rowMajor_val_two, Shape.rowMajor_val_three]
    show b.val * 1 + 0 = (b.val * 1 + u.val) * 1 + v.val
    omega
  · refine (select_slt_zero_of_nonneg p _ p (ix2 b 0) ?_).trans h
    rw [h, toInt_small (by omega)]
    omega

theorem inside_small : ∀ q : Fin 52, IntOp.andi (IntOp.cmpi .sge (BitVec.ofNat 32 q.val) 0#32) (IntOp.cmpi .sle (BitVec.ofNat 32 q.val) 51#32) = 1#1 := by
  decide

theorem bwd3_at (q : Fin 128 → Fin 52) (h : ∀ b, rd64b X (ix2 b 0) = BitVec.ofNat 32 (q b).val) (b : Fin 128) :
    rd65b (after bwd3 X) (ix2 b 0) = rd63b X (ix2 b (q b)) := by
  rw [bwd3_read]
  have h1 : Host.reduce IntOp.andi (inside (wrap (rd64b X))) (constantI S_ 1 1#1) reducesTo_S128x1x1_S128x1_d2 h_S_ (ix2 b 0) = 1#1 := by
    refine Host.reduce_andi_one _ _ _ _ _ rfl fun i => ?_
    obtain ⟨b', u, v, rfl⟩ : ∃ b' u v, i = ix3 b' u v := ⟨i 0, i 1, i 2, funext fun a => by fin_cases a <;> rfl⟩
    show IntOp.andi (IntOp.cmpi .sge (wrap (rd64b X) (ix3 b' u v)) 0#32) (IntOp.cmpi .sle (wrap (rd64b X) (ix3 b' u v)) 51#32) = 1#1
    rw [wrap_apply _ b' u v (q b') (h b')]
    exact inside_small (q b')
  refine (congrArg (fun z => Scalar.select z _ _) h1).trans ?_
  refine gatherP_apply (rd63b X) (wrap (rd64b X)) b (q b) ?_
  rw [wrap_apply _ b 0 0 (q b) (h b)]
  have := (q b).isLt
  exact toInt_small (by omega)

theorem bwd4_at (b : Fin 128) : rd66b (after bwd4 X) (ix1 b) = rd65b X (ix2 b 0) := by
  show (after bwd4 X (Proc.devRef .tc main_while1b_v66) : IVec S128 32) (ix1 b) = _
  after_results
  refine shapeCast_apply (s := S128x1) (t := S128) _ shapeCasts_S128x1_S128 (ix1 b) (ix2 b 0) ?_
  rw [Shape.rowMajor_val_two, Shape.rowMajor_val_one]
  show b.val * 1 + 0 = b.val
  omega

theorem bwd5_at (hr : rd62b X = fun _ => BitVec.ofNat 32 r.val) (r' : Fin 511) (b : Fin 128) :
    rd67b (after bwd5 X) (ix2 r' b) = if r' = r then rd66b X (ix1 b) else rdDec X (ix2 r' b) := by
  have e0 : rd62b (after (bwd5.take 2) X) = rd62b X := by
    show after (bwd5.take 2) X (Proc.devRef .tc main_while1b_v62) = X (Proc.devRef .tc main_while1b_v62)
    exact after_unwritten [main_while1b_call10_v0, main_while1b_call10_c] rfl (by decide +kernel) X
  have e1 : (after (bwd5.take 2) X (Proc.devRef .tc main_while1b_call10_c) : IVec S_ 32) = constantI S_ 32 0#32 := by
    show after [_, _] X _ = _
    after_results; rfl
  show (after bwd5 X (Proc.devRef .tc main_while1b_v67) : IVec S511x128 32) (ix2 r' b) = _
  after_results
  refine (putRow2 _ _ _ r ?_ ?_ r' b).trans ?_
  · exact (congrArg (fun z : IVec S_ 32 => (z (Shape.Idx.first h_S_)).toInt) e0).trans (toInt_row hr _)
  · exact congrArg (fun z : IVec S_ 32 => (z (Shape.Idx.first h_S_)).toInt) e1
  · by_cases h : r' = r
    · rw [if_pos h, if_pos h]
      refine congrArg (rd66b X) (funext fun a => Fin.ext ?_)
      fin_cases a; rfl
    · rw [if_neg h, if_neg h]; rfl

theorem bwd6_ptr : rdPtr (after bwd6 X) = rd66b X := by
  show after bwd6 X (Proc.devRef .tc main_v57_2) = _
  after_results; rfl
theorem bwd6_dec : rdDec (after bwd6 X) = rd67b X := by
  show after bwd6 X (Proc.devRef .tc main_v57_3) = _
  after_results; rfl

end Reads

section Trip

variable (V : Valuation τ sig (Elt Ideal))

/-- The contents before and after each stretch of the trip. -/
abbrev z0 : Valuation τ sig (Elt Ideal) := after cond1 V
abbrev z1 : Valuation τ sig (Elt Ideal) := after bwd0 (z0 V)
abbrev z2 : Valuation τ sig (Elt Ideal) := after bwd1 (z1 V)
abbrev z3 : Valuation τ sig (Elt Ideal) := after bwd2 (z2 V)
abbrev z4 : Valuation τ sig (Elt Ideal) := after bwd3 (z3 V)
abbrev z5 : Valuation τ sig (Elt Ideal) := after bwd4 (z4 V)
abbrev z6 : Valuation τ sig (Elt Ideal) := after bwd5 (z5 V)
abbrev z7 : Valuation τ sig (Elt Ideal) := after bwd6 (z6 V)

theorem trip1_eq : afterL bwdI (after cond1 V) = z7 V := by simp only [afterL_cons, afterL_nil]

variable {b : Ref sig .tc}

theorem y0 (h : b ∉ [main_while1c_c_13, main_while1c_v61]) : z0 V (Proc.devRef .tc b) = V (Proc.devRef .tc b) :=
  after_unwritten (ops := cond1) [main_while1c_c_13, main_while1c_v61] rfl h V
theorem y1 (h : b ∉ bwd0W) : z1 V (Proc.devRef .tc b) = z0 V (Proc.devRef .tc b) := after_unwritten (ops := bwd0) bwd0W rfl h _
theorem y2 (h : b ∉ bwd1W) : z2 V (Proc.devRef .tc b) = z1 V (Proc.devRef .tc b) := after_unwritten (ops := bwd1) bwd1W rfl h _
theorem y3 (h : b ∉ bwd2W) : z3 V (Proc.devRef .tc b) = z2 V (Proc.devRef .tc b) := after_unwritten (ops := bwd2) bwd2W rfl h _
theorem y4 (h : b ∉ bwd3W) : z4 V (Proc.devRef .tc b) = z3 V (Proc.devRef .tc b) := after_unwritten (ops := bwd3) bwd3W rfl h _
theorem y5 (h : b ∉ bwd4W) : z5 V (Proc.devRef .tc b) = z4 V (Proc.devRef .tc b) := after_unwritten (ops := bwd4) bwd4W rfl h _
theorem y6 (h : b ∉ bwd5W) : z6 V (Proc.devRef .tc b) = z5 V (Proc.devRef .tc b) := after_unwritten (ops := bwd5) bwd5W rfl h _

variable {V} {r : Fin 511}

theorem trip1_row (hc : rdCtr1 V = fun _ => BitVec.ofNat 32 (510 - r.val)) : rd62b (z1 V) = fun _ => BitVec.ofNat 32 r.val :=
  bwd0_row ((y0 V (by decide +kernel)).trans hc)

/-- The pointer after the trip. -/
theorem trip1_ptr (hc : rdCtr1 V = fun _ => BitVec.ofNat 32 (510 - r.val)) (q : Fin 128 → Fin 52)
    (h : ∀ b, rdPtr V (ix1 b) = BitVec.ofNat 32 (q b).val) (b : Fin 128) : rdPtr (z7 V) (ix1 b) = rdRows V (ix3 r b (q b)) := by
  rw [bwd6_ptr, show rd66b (z6 V) = rd66b (z5 V) from y6 V (by decide +kernel), bwd4_at, bwd3_at q fun b => ?_,
    show rd63b (z3 V) = rd63b (z2 V) from y3 V (by decide +kernel), bwd1_at (trip1_row hc),
    show rdRows (z1 V) = rdRows V from (y1 V (by decide +kernel)).trans (y0 V (by decide +kernel))]
  rw [bwd2_at, show rdPtr (z2 V) = rdPtr V from (y2 V (by decide +kernel)).trans ((y1 V (by decide +kernel)).trans (y0 V (by decide +kernel)))]
  exact h b

/-- The decoded tags after the trip. -/
theorem trip1_dec (hc : rdCtr1 V = fun _ => BitVec.ofNat 32 (510 - r.val)) (r' : Fin 511) (b : Fin 128) :
    rdDec (z7 V) (ix2 r' b) = if r' = r then rdPtr (z7 V) (ix1 b) else rdDec V (ix2 r' b) := by
  have h5 : rd62b (z5 V) = fun _ => BitVec.ofNat 32 r.val :=
    ((y5 V (by decide +kernel)).trans ((y4 V (by decide +kernel)).trans ((y3 V (by decide +kernel)).trans (y2 V (by decide +kernel))))).trans (trip1_row hc)
  rw [bwd6_dec, bwd5_at h5, bwd6_ptr, show rd66b (z6 V) = rd66b (z5 V) from y6 V (by decide +kernel),
    show rdDec (z5 V) = rdDec V from (y5 V (by decide +kernel)).trans ((y4 V (by decide +kernel)).trans ((y3 V (by decide +kernel)).trans
      ((y2 V (by decide +kernel)).trans ((y1 V (by decide +kernel)).trans (y0 V (by decide +kernel))))))]

end Trip

variable (m : (ℓ : Loc nD τ sig) → Buf (Elt Ideal) ℓ) (d : Dev nD)

theorem ctr1_at (k : ℕ) : rdCtr1 (at1 m k d) = fun _ => BitVec.ofNat 32 k := by
  rw [show rdCtr1 (at1 m k d) = _ from at1_ctr m d k, iv_eq]; rfl

theorem at1_succ (k : ℕ) : at1 m (k + 1) d = z7 (at1 m k d) := trip1_eq (at1 m k d)

theorem rows_at (k : ℕ) : rdRows (at1 m k d) = rdRows (entry1 m d) := at1_keep m d (by decide +kernel) k

variable {m d}

/-- Trip `k` works on row `510 - k`. -/
theorem at1_ptr (k : ℕ) (hk : k < 511) (q : Fin 128 → Fin 52) (h : ∀ b, rdPtr (at1 m k d) (ix1 b) = BitVec.ofNat 32 (q b).val) (b : Fin 128) :
    rdPtr (at1 m (k + 1) d) (ix1 b) = rdRows (entry1 m d) (ix3 ⟨510 - k, by omega⟩ b (q b)) := by
  rw [at1_succ, trip1_ptr (V := at1 m k d) (r := ⟨510 - k, by omega⟩) ?_ q h b, rows_at]
  rw [ctr1_at]
  show _ = fun _ => BitVec.ofNat 32 (510 - (510 - k))
  rw [show 510 - (510 - k) = k by omega]

theorem at1_dec (k : ℕ) (hk : k < 511) (r : Fin 511) (b : Fin 128) :
    rdDec (at1 m (k + 1) d) (ix2 r b) = if r = ⟨510 - k, by omega⟩ then rdPtr (at1 m (k + 1) d) (ix1 b) else rdDec (at1 m k d) (ix2 r b) := by
  rw [at1_succ, trip1_dec (V := at1 m k d) (r := ⟨510 - k, by omega⟩)]
  rw [ctr1_at]
  show _ = fun _ => BitVec.ofNat 32 (510 - (510 - k))
  rw [show 510 - (510 - k) = k by omega]

/-- A decoded row once written stays. -/
theorem dec_stay (k : ℕ) (hk : k < 511) (b : Fin 128) : ∀ n, k + 1 ≤ n → n ≤ 511 →
    rdDec (at1 m n d) (ix2 ⟨510 - k, by omega⟩ b) = rdPtr (at1 m (k + 1) d) (ix1 b) := by
  intro n hn
  induction n, hn using Nat.le_induction with
  | base => intro _; rw [at1_dec k hk, if_pos rfl]
  | succ n hn ih =>
    intro h
    rw [at1_dec n (by omega), if_neg (fun e => by have := congrArg Fin.val e; simp at this; omega)]
    exact ih (by omega)

end Cert.ReferenceIdeal.Ops

end
-- ==== Proof.Value.lean ====
/-
  The kernel and the reference decode the same tags: at each step both take, for each tag and sequence, the first largest of the same
  52 candidates, so partitions and pointers agree step by step, and the walk back reads the same pointers.
-/
module

public import proofs.«01_k».proof.Proof.KernelFirst
public import proofs.«01_k».proof.Proof.RefBackward

@[expose] public section

set_option maxRecDepth 8192

noncomputable section

namespace Cert.Crf

open Cert.ReferenceIdeal Cert.ReferenceIdeal.Gen Cert.ReferenceIdeal.Ops
open Cert.KernelIdeal.Val (kst kptr outV rowF rowT colStop cand cand_apply fwdStep_holds pay1_apply pay2_first pay4_apply)
open Idealize.ShloMosaic Idealize.ShloMosaic.TcCoe Idealize.ShloMosaic.StableHlo Idealize.ShloMosaic.ValueIdx

/-- The transitions repeated for every sequence. -/
abbrev spread (x2 : FVec Ideal S52x52 .f32) : Vec Ideal Cert.KernelIdeal.S52x52x128 .f32 := fun j => x2 (ix2 (j 0) (j 1))

variable {m : (ℓ : Loc nD τ sig) → Buf (Elt Ideal) ℓ} {d : Dev nD}
variable {x0 : FVec Ideal S512x52x128 .f32} {x2 : FVec Ideal S52x52 .f32}

/-- The three arguments: emissions `x0`, a mask of ones, transitions `x2`. -/
structure Args (m : (ℓ : Loc nD τ sig) → Buf (Elt Ideal) ℓ) (d : Dev nD) (x0 : FVec Ideal S512x52x128 .f32) (x2 : FVec Ideal S52x52 .f32) : Prop where
  feats : m ((d.tc : Thread nD τ).loc main_arg0) = x0
  mask : (m ((d.tc : Thread nD τ).loc main_arg1) : FVec Ideal S128x512 .f32) = fun _ => (1 : EReal)
  trans : m ((d.tc : Thread nD τ).loc main_arg2) = x2

theorem at0_zero : at0 m 0 d = after pre0 (fun b => m (d, b)) := by
  show entryContents preI m d = _
  simp only [entryContents, afterL_cons, afterL_nil]

section Forward

variable (h : Args m d x0 x2)
include h

theorem feats_eq (k : Fin 511) (b : Fin 128) (c : Fin 52) : rdFeats (at0 m 0 d) (ix3 k b c) = x0 (ix3 k.succ c b) := by
  rw [at0_zero, pre_feats]
  exact congrFun h.feats _

theorem trans_eq : rdTrans (at0 m 0 d) = x2 := by
  rw [at0_zero, pre_trans]
  exact h.trans

theorem mask_pos (r : Fin 511) (b : Fin 128) : (0 : EReal) < rdMask (at0 m 0 d) (ix2 r b) := by
  rw [at0_zero, pre_mask, show rdArg1 (fun b => m (d, b)) = fun _ => (1 : EReal) from h.mask]
  exact zero_lt_one

theorem part_zero (b : Fin 128) (c : Fin 52) : (kst x0 (spread x2) 0).1 (ix2 c b) = rdPart (at0 m 0 d) (ix2 b c) := by
  rw [at0_zero, pre_part, show rdArg0 (fun b => m (d, b)) = x0 from h.feats, show rdArg2 (fun b => m (d, b)) = x2 from h.trans]
  exact pay1_apply _ _ c b

/-- One step: from equal partitions, equal partitions and equal pointers, which are tags. -/
theorem step_eq (k : Fin 511) (ih : ∀ b c, (kst x0 (spread x2) k.val).1 (ix2 c b) = rdPart (at0 m k.val d) (ix2 b c)) (b : Fin 128) (c : Fin 52) :
    (kst x0 (spread x2) (k.val + 1)).1 (ix2 c b) = rdPart (at0 m (k.val + 1) d) (ix2 b c)
      ∧ (kst x0 (spread x2) (k.val + 1)).2 (ix2 c b) = rdBps (at0 m (k.val + 1) d) (ix3 k b c)
      ∧ ∃ i : Fin 52, rdBps (at0 m (k.val + 1) d) (ix3 k b c) = BitVec.ofNat 32 i.val := by
  have hr := at0_holds (m := m) (d := d) (mask_pos h) k b c
  have hk := fwdStep_holds (kst x0 (spread x2) k.val).1 (rowF x0 (Fin.ofNat 512 (k.val + 1))) (rowT (spread x2)) (ix2 c b)
  have hg : (fun p => cand (kst x0 (spread x2) k.val).1 (rowF x0 (Fin.ofNat 512 (k.val + 1))) (rowT (spread x2)) p (ix2 c b))
      = fun p => (rdFeats (at0 m 0 d) (ix3 k b c) + rdTrans (at0 m 0 d) (ix2 p c)) + rdPart (at0 m k.val d) (ix2 b p) := by
    funext p
    rw [cand_apply, ih b p, feats_eq h, trans_eq h]
    have e : (Fin.ofNat 512 (k.val + 1) : Fin 512) = k.succ := Fin.ext (Nat.mod_eq_of_lt (by have := k.isLt; omega))
    rw [e]
    rfl
  rw [hg] at hk
  obtain ⟨hv, hp⟩ := hk.unique hr
  obtain ⟨i, -, hi⟩ := hr
  exact ⟨hv, hp, i, hi⟩

theorem part_eq : ∀ k, k ≤ 511 → ∀ (b : Fin 128) (c : Fin 52), (kst x0 (spread x2) k).1 (ix2 c b) = rdPart (at0 m k d) (ix2 b c)
  | 0, _ => part_zero h
  | k + 1, hk => fun b c => (step_eq h ⟨k, hk⟩ (part_eq k (Nat.le_of_succ_le hk)) b c).1

/-- The pointers of step `k`, as the kernel keeps them and as the reference still has them after the loop. -/
theorem bps_eq (k : Fin 511) (b : Fin 128) (c : Fin 52) :
    (kst x0 (spread x2) (k.val + 1)).2 (ix2 c b) = rdBps (at0 m 511 d) (ix3 k b c)
      ∧ ∃ i : Fin 52, rdBps (at0 m 511 d) (ix3 k b c) = BitVec.ofNat 32 i.val := by
  have hk := k.isLt
  rw [bps_stay k b c 511 hk le_rfl]
  exact (step_eq h k (part_eq h k.val (Nat.le_of_lt hk)) b c).2

end Forward

/-! ## Between the loops -/

section Middle

variable (V : Valuation τ sig (Elt Ideal))

abbrev q0 : Valuation τ sig (Elt Ideal) := after cond0 V
abbrev q1 : Valuation τ sig (Elt Ideal) := after mid0 (q0 V)
abbrev q2 : Valuation τ sig (Elt Ideal) := after mid1 (q1 V)
abbrev q3 : Valuation τ sig (Elt Ideal) := after mid2 (q2 V)
abbrev q4 : Valuation τ sig (Elt Ideal) := after mid3 (q3 V)
abbrev q5 : Valuation τ sig (Elt Ideal) := after mid4 (q4 V)
abbrev q6 : Valuation τ sig (Elt Ideal) := after mid5 (q5 V)

theorem mid_eq : afterL midI (after cond0 V) = q6 V := by simp only [afterL_cons, afterL_nil]

variable {b : Ref sig .tc}

theorem p0 (h : b ∉ [main_while0c_c_16, main_while0c_v61]) : q0 V (Proc.devRef .tc b) = V (Proc.devRef .tc b) :=
  after_unwritten (ops := cond0) [main_while0c_c_16, main_while0c_v61] rfl h V
theorem p1 (h : b ∉ mid0W) : q1 V (Proc.devRef .tc b) = q0 V (Proc.devRef .tc b) := after_unwritten (ops := mid0) mid0W rfl h _
theorem p2 (h : b ∉ mid1W) : q2 V (Proc.devRef .tc b) = q1 V (Proc.devRef .tc b) := after_unwritten (ops := mid1) mid1W rfl h _
theorem p3 (h : b ∉ mid2W) : q3 V (Proc.devRef .tc b) = q2 V (Proc.devRef .tc b) := after_unwritten (ops := mid2) mid2W rfl h _
theorem p4 (h : b ∉ mid3W) : q4 V (Proc.devRef .tc b) = q3 V (Proc.devRef .tc b) := after_unwritten (ops := mid3) mid3W rfl h _
theorem p5 (h : b ∉ mid4W) : q5 V (Proc.devRef .tc b) = q4 V (Proc.devRef .tc b) := after_unwritten (ops := mid4) mid4W rfl h _

variable {V}

theorem last_pos (h : rdArg1 V = fun _ => (1 : EReal)) : rd20 (q1 V) = fun _ => 511#32 :=
  mid0_last ((p0 V (by decide +kernel)).trans h)

/-- The rows of pointers that the backward loop reads are the forward loop's. -/
theorem rows_eq (h : rdArg1 V = fun _ => (1 : EReal)) (r : Fin 511) (b : Fin 128) (t : Fin 52) : rdRows (q6 V) (ix3 r b t) = rdBps V (ix3 r b t) := by
  rw [mid5_rows (X := q5 V) mid4_zero
    (((p5 V (by decide +kernel)).trans ((p4 V (by decide +kernel)).trans ((p3 V (by decide +kernel)).trans (p2 V (by decide +kernel))))).trans (last_pos h)),
    mid4_rows, show rdBps (q4 V) = rdBps V from (p4 V (by decide +kernel)).trans ((p3 V (by decide +kernel)).trans ((p2 V (by decide +kernel)).trans
      ((p1 V (by decide +kernel)).trans (p0 V (by decide +kernel)))))]

/-- The first pointer is the first largest sum of the last partition and the transition into the stop tag. -/
theorem ptr_holds (h : rdArg1 V = fun _ => (1 : EReal)) (b : Fin 128) :
    ∃ mx, Holds (fun p => rdParts V (ix3 510 b p) + rdArg2 V (ix2 p 51)) (fun _ => True) mx (rdPtr (q6 V) (ix1 b)) := by
  have h24 : ∀ t, rd24 (q2 V) (ix3 b 0 t) = rdParts V (ix3 510 b t) := fun t => by
    refine (mid1_at (X := q1 V) ?_ b t).trans ?_
    · funext j
      obtain ⟨b', u, t', rfl⟩ : ∃ b' u t', j = ix3 b' u t' := ⟨j 0, j 1, j 2, eq_ix3 j⟩
      obtain rfl : u = 0 := Subsingleton.elim _ _
      rw [mid0_bcast, last_pos h]
    · rw [mid0_parts, show rdParts (q0 V) = rdParts V from p0 V (by decide +kernel)]
  have h30 : (fun p => rd30 (q3 V) (ix3 b p 51)) = fun p => rdParts V (ix3 510 b p) + rdArg2 V (ix2 p 51) := by
    funext p
    rw [mid2_at, h24, show rdArg2 (q2 V) = rdArg2 V from (p2 V (by decide +kernel)).trans ((p1 V (by decide +kernel)).trans (p0 V (by decide +kernel)))]
    rfl
  have hptr : rdPtr (q6 V) (ix1 b) = rd31 (q4 V) (ix2 b 51) := by rw [mid5_ptr, mid4_ptr]
  rw [hptr, mid3_arg, ← h30]
  exact ⟨_, argmax_holds (rd30 (q3 V)) b 51⟩

/-- The tags' last row is the first pointer. -/
theorem ptr_33 : rd33 (q6 V) = rdPtr (q6 V) := by
  rw [mid5_ptr]
  exact after_unwritten (ops := mid5) mid5W rfl (by decide +kernel) (q5 V)

end Middle

section Whole

variable (h : Args m d x0 x2)
include h

theorem entry1_eq : entry1 m d = q6 (at0 m 511 d) := mid_eq (at0 m 511 d)

omit h in
theorem arg_keep {b : Ref sig .tc} (hp : b ∉ pre0W) (hf : b ∉ fwdW) : at0 m 511 d (Proc.devRef .tc b) = m ((d.tc : Thread nD τ).loc b) :=
  (at0_keep m d hf 511).trans (entry0_keep m d hp)

theorem mask_ones : rdArg1 (at0 m 511 d) = fun _ => (1 : EReal) := (arg_keep (by decide +kernel) (by decide +kernel)).trans h.mask

theorem first_ptr (b : Fin 128) : ∃ i : Fin 52, rdPtr (entry1 m d) (ix1 b) = BitVec.ofNat 32 i.val ∧ kptr x0 x2 (spread x2) 0 (ix2 0 b) = BitVec.ofNat 32 i.val := by
  obtain ⟨mx, i, hi, hw⟩ := ptr_holds (mask_ones h) b
  refine ⟨i, (congrArg (fun z => rdPtr z (ix1 b)) (entry1_eq h)).trans hw, ?_⟩
  refine pay2_first _ _ b mx i ?_
  have hg : (fun p => (kst x0 (spread x2) 511).1 (ix2 p b) + colStop (F := Ideal) x2 (ix2 p 0))
      = fun p => rdParts (at0 m 511 d) (ix3 510 b p) + rdArg2 (at0 m 511 d) (ix2 p 51) := by
    funext p
    rw [part_eq h 511 le_rfl b p, parts_last, show rdArg2 (at0 m 511 d) = x2 from (arg_keep (by decide +kernel) (by decide +kernel)).trans h.trans]
    rfl
  rw [hg]
  exact hi

/-- The pointers agree along the walk back. -/
theorem ptr_eq : ∀ k, k ≤ 511 → ∀ b : Fin 128, ∃ i : Fin 52, rdPtr (at1 m k d) (ix1 b) = BitVec.ofNat 32 i.val
    ∧ kptr x0 x2 (spread x2) k (ix2 0 b) = BitVec.ofNat 32 i.val
  | 0, _ => first_ptr h
  | k + 1, hk => fun b => by
    choose q hq using ptr_eq k (Nat.le_of_succ_le hk)
    have hlt : 510 - k < 511 := by omega
    have hp := at1_ptr (m := m) (d := d) k hk q (fun b => (hq b).1) b
    rw [congrArg (fun z => rdRows z (ix3 ⟨510 - k, hlt⟩ b (q b))) (entry1_eq h), rows_eq (mask_ones h)] at hp
    obtain ⟨he, i, hi⟩ := bps_eq h ⟨510 - k, hlt⟩ b (q b)
    refine ⟨i, hp.trans hi, ?_⟩
    refine pay4_apply _ _ b (q b) i (hq b).2 ?_
    have e : 511 - k = 510 - k + 1 := by omega
    show (kst x0 (spread x2) (511 - k)).2 (ix2 (q b) b) = _
    rw [e]
    exact he.trans hi

/-- The decoded arrays are equal. -/
theorem decode_eq : outV x0 x2 (spread x2) = rd60 (final m d) := by
  have hf : final m d = after post0 (after cond1 (at1 m 511 d)) := by simp only [final, afterL_cons, afterL_nil]
  have hc : ∀ {b : Ref sig .tc}, b ∉ [main_while1c_c_13, main_while1c_v61] → after cond1 (at1 m 511 d) (Proc.devRef .tc b) = at1 m 511 d (Proc.devRef .tc b) :=
    fun hb => after_unwritten (ops := cond1) [main_while1c_c_13, main_while1c_v61] rfl hb _
  rw [hf]
  funext y
  obtain ⟨r, u, b, rfl⟩ : ∃ r u b, y = ix3 r u b := ⟨y 0, y 1, y 2, eq_ix3 y⟩
  obtain rfl : u = 0 := Subsingleton.elim _ _
  show kptr x0 x2 (spread x2) (511 - r.val) (ix2 0 b) = _
  have hr := r.isLt
  by_cases hl : r.val = 511
  · obtain rfl : r = 511 := Fin.ext hl
    obtain ⟨i, h1, h2⟩ := first_ptr h b
    rw [post_last, show rd33 (after cond1 (at1 m 511 d)) = rd33 (at1 m 511 d) from hc (by decide +kernel),
      show rd33 (at1 m 511 d) = rd33 (entry1 m d) from at1_keep m d (by decide +kernel) 511, congrArg (fun z => rd33 z) (entry1_eq h), ptr_33,
      ← congrArg (fun z => rdPtr z) (entry1_eq h)]
    exact h2.trans h1.symm
  · obtain ⟨r', rfl⟩ : ∃ r' : Fin 511, r = r'.castSucc := ⟨⟨r.val, by omega⟩, rfl⟩
    have hr' := r'.isLt
    obtain ⟨i, h1, h2⟩ := ptr_eq h (510 - r'.val + 1) (by omega) b
    rw [post_dec, show rdDec (after cond1 (at1 m 511 d)) = rdDec (at1 m 511 d) from hc (by decide +kernel)]
    have e : (⟨510 - (510 - r'.val), by omega⟩ : Fin 511) = r' := Fin.ext (show 510 - (510 - r'.val) = r'.val by omega)
    have hd := dec_stay (m := m) (d := d) (510 - r'.val) (by omega) b 511 (by omega) le_rfl
    rw [e] at hd
    rw [hd, show 511 - (r'.castSucc).val = 510 - r'.val + 1 from (show 511 - r'.val = 510 - r'.val + 1 by omega)]
    exact h2.trans h1.symm

end Whole

end Cert.Crf

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_full_mask
public import proofs.«01_k».proof.Proof.KernelRun
public import proofs.«01_k».proof.Proof.KernelBits
public import proofs.«01_k».proof.Proof.RefFrame
public import proofs.«01_k».proof.Proof.Value
public import Idealize.ShloMosaic.Adequacy
public import Idealize.ShloMosaic.Init
public import Idealize.ShloMosaic.Lib.IdealHost

@[expose] public section

noncomputable section

namespace Cert.Proof

open Idealize.ShloMosaic Idealize.ShloMosaic.TcCoe Idealize.ShloMosaic.StableHlo Idealize.SL.Sem Cert.Crf

/-- The named constant stands for −∞. -/
theorem preserves : Cert.preserves_Kernel_KernelIdeal :=
  IdealRules.named_const.statement _ _ _ _ _ rfl

/-- The precondition says that every entry of the mask is one. -/
theorem mask_ones (a0 : FVec Ideal Cert.Pre_full_mask.S512x52x128 .f32) (a1 : FVec Ideal Cert.Pre_full_mask.S128x512 .f32) (a2 : FVec Ideal Cert.Pre_full_mask.S52x52 .f32)
    (h : Cert.Pre_full_mask.fn a0 a1 a2 = fun _ => 1#1) : a1 = fun _ => (1 : EReal) :=
  funext fun j => ((oeq_iff _ _).mp (congrFun h j)).trans Ideal.ofBits_one_f32

/-- The kernel's third operand repeats the transitions for every sequence. -/
theorem spread_eq (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v1 = spread (m ((c : Thread Cert.KernelIdeal.nD Cert.KernelIdeal.τ).loc Cert.KernelIdeal.main_arg2)) := by
  rw [Cert.KernelIdeal.Val.V_main_v1]
  funext j
  refine congrArg (m ((c : Thread Cert.KernelIdeal.nD Cert.KernelIdeal.τ).loc Cert.KernelIdeal.main_arg2)) (funext fun a => Fin.ext ?_)
  fin_cases a <;> rfl

/-- The kernel and the reference both run, and end with equal results. -/
theorem algebraic : Cert.algebraic_KernelIdeal_ReferenceIdeal_pre_full_mask := by
  intro m g m' g' hpre harg
  refine ⟨_, Cert.KernelIdeal.Val.run_value m g, (θ_run _ _ _).mono (fun r h c => ⟨(h c).1.trans ?_, (h c).2⟩) (Cert.ReferenceIdeal.Ops.run_result m' g')⟩
  obtain ⟨h0, h1, h2⟩ := harg c
  rw [spread_eq]
  exact (decode_eq ⟨h0, h1.trans (mask_ones _ _ _ (hpre c)), h2⟩).symm

theorem claim : Cert.Claim :=
  ⟨Cert.Kernel.Gen.facts, Cert.KernelIdeal.Gen.facts, Cert.ReferenceIdeal.Gen.facts, Cert.Pre_full_mask.Gen.facts,
    fun m g _ => Cert.KernelBits.frame m g,
    fun m g _ => Cert.KernelIdeal.Val.frame m g, fun m g _ => Cert.KernelIdeal.Val.frame m g,
    fun m g _ => Cert.ReferenceIdeal.Ops.frame m g, fun m g _ => Cert.ReferenceIdeal.Ops.frame m g,
    preserves, algebraic⟩

end Cert.Proof

end
